-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x1 : Shape := ⟨2, ![20000, 1]⟩
abbrev S20000x6 : Shape := ⟨2, ![20000, 6]⟩
abbrev S20000x18 : Shape := ⟨2, ![20000, 18]⟩
abbrev S20000x3 : Shape := ⟨2, ![20000, 3]⟩
abbrev S_ : Shape := ⟨0, ![]⟩
abbrev S20096x18 : Shape := ⟨2, ![20096, 18]⟩
abbrev S157x128x18 : Shape := ⟨3, ![157, 128, 18]⟩
abbrev S20000 : Shape := ⟨1, ![20000]⟩
abbrev S20096 : Shape := ⟨1, ![20096]⟩
abbrev S157x128 : Shape := ⟨2, ![157, 128]⟩
abbrev S8x128 : Shape := ⟨2, ![8, 128]⟩
abbrev S20000x16 : Shape := ⟨2, ![20000, 16]⟩
abbrev S20480x16 : Shape := ⟨2, ![20480, 16]⟩
abbrev S16x20480 : Shape := ⟨2, ![16, 20480]⟩
abbrev S1024 : Shape := ⟨1, ![1024]⟩
abbrev S1024x1 : Shape := ⟨2, ![1024, 1]⟩
abbrev S1x1024 : Shape := ⟨2, ![1, 1024]⟩
abbrev S1024x6 : Shape := ⟨2, ![1024, 6]⟩
abbrev S1000x6 : Shape := ⟨2, ![1000, 6]⟩
abbrev S1x1000 : Shape := ⟨2, ![1, 1000]⟩
abbrev S1000 : Shape := ⟨1, ![1000]⟩
abbrev S157x128x1 : Shape := ⟨3, ![157, 128, 1]⟩
abbrev S99x128 : Shape := ⟨2, ![99, 128]⟩
abbrev S256x128 : Shape := ⟨2, ![256, 128]⟩
abbrev S1024x1024 : Shape := ⟨2, ![1024, 1024]⟩
abbrev S1024x16 : Shape := ⟨2, ![1024, 16]⟩
abbrev S1x2048 : Shape := ⟨2, ![1, 2048]⟩
abbrev S1024x2048 : Shape := ⟨2, ![1024, 2048]⟩
abbrev S2048x16 : Shape := ⟨2, ![2048, 16]⟩
abbrev S16x1024 : Shape := ⟨2, ![16, 1024]⟩
abbrev S2048x1 : Shape := ⟨2, ![2048, 1]⟩
abbrev S2048x1024 : Shape := ⟨2, ![2048, 1024]⟩
abbrev S16x2048 : Shape := ⟨2, ![16, 2048]⟩
abbrev S1024x3 : Shape := ⟨2, ![1024, 3]⟩
abbrev S6x1024 : Shape := ⟨2, ![6, 1024]⟩
abbrev S3x1024 : Shape := ⟨2, ![3, 1024]⟩
abbrev S128x1024 : Shape := ⟨2, ![128, 1024]⟩
abbrev S128x1 : Shape := ⟨2, ![128, 1]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 40
  | .vmem => 14
  | .smem => 0
  | _ => 0

abbrev bufTy : (tb : Table) → Fin (tcTables nBuf tb) → BufTy
  | .hbm, ⟨0, _⟩ => ⟨S20000x1, .f32⟩
  | .hbm, ⟨1, _⟩ => ⟨S20000x6, .f32⟩
  | .hbm, ⟨2, _⟩ => ⟨S20000x18, .f32⟩
  | .hbm, ⟨3, _⟩ => ⟨S20000x3, .f32⟩
  | .hbm, ⟨4, _⟩ => ⟨S_, .i32⟩
  | .hbm, ⟨5, _⟩ => ⟨S_, .f32⟩
  | .hbm, ⟨6, _⟩ => ⟨S20096x18, .f32⟩
  | .hbm, ⟨7, _⟩ => ⟨S157x128x18, .f32⟩
  | .hbm, ⟨8, _⟩ => ⟨S20000, .f32⟩
  | .hbm, ⟨9, _⟩ => ⟨S_, .i32⟩
  | .hbm, ⟨10, _⟩ => ⟨S_, .f32⟩
  | .hbm, ⟨11, _⟩ => ⟨S20096, .f32⟩
  | .hbm, ⟨12, _⟩ => ⟨S157x128, .f32⟩
  | .hbm, ⟨13, _⟩ => ⟨S8x128, .i32⟩
  | .hbm, ⟨14, _⟩ => ⟨S8x128, .f32⟩
  | .hbm, ⟨15, _⟩ => ⟨S157x128, .f32⟩
  | .hbm, ⟨16, _⟩ => ⟨S20096, .f32⟩
  | .hbm, ⟨17, _⟩ => ⟨S20000, .f32⟩
  | .hbm, ⟨18, _⟩ => ⟨S20000x1, .f32⟩
  | .hbm, ⟨19, _⟩ => ⟨S_, .f32⟩
  | .hbm, ⟨20, _⟩ => ⟨S20000x6, .f32⟩
  | .hbm, ⟨21, _⟩ => ⟨S20000x16, .f32⟩
  | .hbm, ⟨22, _⟩ => ⟨S_, .i32⟩
  | .hbm, ⟨23, _⟩ => ⟨S_, .f32⟩
  | .hbm, ⟨24, _⟩ => ⟨S20480x16, .f32⟩
  | .hbm, ⟨25, _⟩ => ⟨S16x20480, .f32⟩
  | .hbm, ⟨26, _⟩ => ⟨S1024, .i32⟩
  | .hbm, ⟨27, _⟩ => ⟨S1024, .f32⟩
  | .hbm, ⟨28, _⟩ => ⟨S1024x1, .i32⟩
  | .hbm, ⟨29, _⟩ => ⟨S1x1024, .i32⟩
  | .hbm, ⟨30, _⟩ => ⟨S1x1024, .f32⟩
  | .hbm, ⟨31, _⟩ => ⟨S1024x6, .f32⟩
  | .hbm, ⟨32, _⟩ => ⟨S1x1024, .f32⟩
  | .hbm, ⟨33, _⟩ => ⟨S1x1024, .f32⟩
  | .hbm, ⟨34, _⟩ => ⟨S1000x6, .f32⟩
  | .hbm, ⟨35, _⟩ => ⟨S1x1000, .f32⟩
  | .hbm, ⟨36, _⟩ => ⟨S1000, .f32⟩
  | .hbm, ⟨37, _⟩ => ⟨S1x1000, .f32⟩
  | .hbm, ⟨38, _⟩ => ⟨S1000, .f32⟩
  | .hbm, ⟨39, _⟩ => ⟨S1000, .i32⟩
  | .local _ .vmem, ⟨0, _⟩ => ⟨S157x128x18, .f32⟩
  | .local _ .vmem, ⟨1, _⟩ => ⟨S157x128, .f32⟩
  | .local _ .vmem, ⟨2, _⟩ => ⟨S8x128, .i32⟩
  | .local _ .vmem, ⟨3, _⟩ => ⟨S8x128, .f32⟩
  | .local _ .vmem, ⟨4, _⟩ => ⟨S157x128, .f32⟩
  | .local _ .vmem, ⟨5, _⟩ => ⟨S1024x1, .i32⟩
  | .local _ .vmem, ⟨6, _⟩ => ⟨S1x1024, .i32⟩
  | .local _ .vmem, ⟨7, _⟩ => ⟨S1x1024, .f32⟩
  | .local _ .vmem, ⟨8, _⟩ => ⟨S20480x16, .f32⟩
  | .local _ .vmem, ⟨9, _⟩ => ⟨S16x20480, .f32⟩
  | .local _ .vmem, ⟨10, _⟩ => ⟨S1024x6, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | _, _ => ⟨S20000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_call1_v0 : Ref sig .tc := ⟨.hbm, 10, rfl⟩
abbrev main_call0_v3 : Ref sig .tc := ⟨.hbm, 11, rfl⟩
abbrev main_call0_v4 : Ref sig .tc := ⟨.hbm, 12, rfl⟩
abbrev main_call0_v5_0 : Ref sig .tc := ⟨.hbm, 13, rfl⟩
abbrev main_call0_v5_1 : Ref sig .tc := ⟨.hbm, 14, rfl⟩
abbrev main_call0_v5_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_cst : Ref sig .tc := ⟨.hbm, 19, rfl⟩
abbrev main_call0_v9 : Ref sig .tc := ⟨.hbm, 20, rfl⟩
abbrev main_call0_v10 : Ref sig .tc := ⟨.hbm, 21, rfl⟩
abbrev main_call0_c_1 : Ref sig .tc := ⟨.hbm, 22, rfl⟩
abbrev main_call0_call2_v0 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18_0 : Ref sig .tc := ⟨.hbm, 31, rfl⟩
abbrev main_call0_v18_1 : Ref sig .tc := ⟨.hbm, 32, rfl⟩
abbrev main_call0_v18_2 : Ref sig .tc := ⟨.hbm, 33, rfl⟩
abbrev main_v0_0 : Ref sig .tc := ⟨.hbm, 34, rfl⟩
abbrev main_call0_v20 : Ref sig .tc := ⟨.hbm, 35, rfl⟩
abbrev main_v0_1 : Ref sig .tc := ⟨.hbm, 36, rfl⟩
abbrev main_call0_v22 : Ref sig .tc := ⟨.hbm, 37, rfl⟩
abbrev main_call0_v23 : Ref sig .tc := ⟨.hbm, 38, rfl⟩
abbrev main_v0_2 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12

abbrev nD : Nat := 1
abbrev τ : Topo := Topo.v7x

variable {F : FTy → Type} [FloatOps F]

abbrev grid0 : Pipeline.Grid := .none

abbrev stage0_0 : Fin 1 → Memref sig .tc .vmem S157x128x18 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S157x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S157x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

@[reducible] def k1_t1_loop : Scf.Loop 32 :=
  let c0_i32_127 : BitVec 32 := 0#32
  let c1000_i32 : BitVec 32 := 1000#32
  let v746 : BitVec 32 := Scalar.addi c0_i32_127 c1000_i32
  let c1_i32 : BitVec 32 := 1#32
  ⟨c0_i32_127, v746, c1_i32⟩
def k1_off1 (k1_t1 : Fin k1_t1_loop.trips) : Fin 2 → Nat :=
  let c0_i32_127 : BitVec 32 := 0#32
  let c1_i32 : BitVec 32 := 1#32
  let arg9 : BitVec 32 := Scf.iv c0_i32_127 c1_i32 k1_t1
  let v754 : Index := Scalar.indexCast arg9
  let c0_135 : Index := 0#32
  ![v754.toNat, 0]
abbrev stage1_0 : Fin 1 → Memref sig .tc .vmem S1024x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1024 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S20480x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x20480 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x6 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S20000x1 : Shape := ⟨2, ![20000, 1]⟩
abbrev S20000x6 : Shape := ⟨2, ![20000, 6]⟩
abbrev S20000x18 : Shape := ⟨2, ![20000, 18]⟩
abbrev S20000x3 : Shape := ⟨2, ![20000, 3]⟩
abbrev S_ : Shape := ⟨0, ![]⟩
abbrev S20000 : Shape := ⟨1, ![20000]⟩
abbrev S1000 : Shape := ⟨1, ![1000]⟩
abbrev S1000x1 : Shape := ⟨2, ![1000, 1]⟩
abbrev S1 : Shape := ⟨1, ![1]⟩
abbrev S1x1 : Shape := ⟨2, ![1, 1]⟩
abbrev S1000x6 : Shape := ⟨2, ![1000, 6]⟩
abbrev S1000x18 : Shape := ⟨2, ![1000, 18]⟩
abbrev S1000x3 : Shape := ⟨2, ![1000, 3]⟩
abbrev S1000x1x6 : Shape := ⟨3, ![1000, 1, 6]⟩
abbrev S1x1000x6 : Shape := ⟨3, ![1, 1000, 6]⟩
abbrev S1000x1x3 : Shape := ⟨3, ![1000, 1, 3]⟩
abbrev S1x1000x3 : Shape := ⟨3, ![1, 1000, 3]⟩
abbrev S1000x1000x3 : Shape := ⟨3, ![1000, 1000, 3]⟩
abbrev S1000x1000x1 : Shape := ⟨3, ![1000, 1000, 1]⟩
abbrev S1000x1000 : Shape := ⟨2, ![1000, 1000]⟩
abbrev S1x1000 : Shape := ⟨2, ![1, 1000]⟩

abbrev nBuf : Space → Nat
  | .hbm => 287
  | .vmem => 0
  | .smem => 0
  | _ => 0

abbrev hbmTy0_0 (i : Nat) : BufTy := match i % 128 with
  | 0 => ⟨S20000x1, .f32⟩
  | 1 => ⟨S20000x6, .f32⟩
  | 2 => ⟨S20000x18, .f32⟩
  | 3 => ⟨S20000x3, .f32⟩
  | 4 => ⟨S20000x18, .f32⟩
  | 5 => ⟨S20000x18, .f32⟩
  | 6 => ⟨S_, .f32⟩
  | 7 => ⟨S20000x18, .f32⟩
  | 8 => ⟨S20000x18, .f32⟩
  | 9 => ⟨S_, .f32⟩
  | 10 => ⟨S20000x18, .f32⟩
  | 11 => ⟨S20000x18, .f32⟩
  | 12 => ⟨S20000x1, .f32⟩
  | 13 => ⟨S20000x1, .f32⟩
  | 14 => ⟨S_, .f32⟩
  | 15 => ⟨S20000x1, .f32⟩
  | 16 => ⟨S20000x1, .f32⟩
  | 17 => ⟨S_, .f32⟩
  | 18 => ⟨S20000x1, .f32⟩
  | 19 => ⟨S20000x1, .f32⟩
  | 20 => ⟨S20000x18, .f32⟩
  | 21 => ⟨S20000x18, .f32⟩
  | 22 => ⟨S_, .f32⟩
  | 23 => ⟨S20000, .f32⟩
  | 24 => ⟨S1000, .f32⟩
  | 25 => ⟨S1000, .i32⟩
  | 26 => ⟨S_, .i32⟩
  | 27 => ⟨S1000, .i32⟩
  | 28 => ⟨S1000, .i1⟩
  | 29 => ⟨S_, .i32⟩
  | 30 => ⟨S1000, .i32⟩
  | 31 => ⟨S1000, .i32⟩
  | 32 => ⟨S1000, .i32⟩
  | 33 => ⟨S1000x1, .i32⟩
  | 34 => ⟨S1, .i32⟩
  | 35 => ⟨S_, .i32⟩
  | 36 => ⟨S1000x1, .i32⟩
  | 37 => ⟨S1000x1, .i1⟩
  | 38 => ⟨S1x1, .i32⟩
  | 39 => ⟨S1000x1, .i32⟩
  | 40 => ⟨S1000x1, .i1⟩
  | 41 => ⟨S1000x1, .i1⟩
  | 42 => ⟨S_, .i1⟩
  | 43 => ⟨S1000, .i1⟩
  | 44 => ⟨S1000x6, .f32⟩
  | 45 => ⟨S1000x6, .i1⟩
  | 46 => ⟨S_, .f32⟩
  | 47 => ⟨S1000x6, .f32⟩
  | 48 => ⟨S1000x6, .f32⟩
  | 49 => ⟨S_, .i32⟩
  | 50 => ⟨S1000, .i32⟩
  | 51 => ⟨S1000, .i1⟩
  | 52 => ⟨S_, .i32⟩
  | 53 => ⟨S1000, .i32⟩
  | 54 => ⟨S1000, .i32⟩
  | 55 => ⟨S1000, .i32⟩
  | 56 => ⟨S1000x1, .i32⟩
  | 57 => ⟨S1, .i32⟩
  | 58 => ⟨S_, .i32⟩
  | 59 => ⟨S1000x1, .i32⟩
  | 60 => ⟨S1000x1, .i1⟩
  | 61 => ⟨S1x1, .i32⟩
  | 62 => ⟨S1000x1, .i32⟩
  | 63 => ⟨S1000x1, .i1⟩
  | 64 => ⟨S1000x1, .i1⟩
  | 65 => ⟨S_, .i1⟩
  | 66 => ⟨S1000, .i1⟩
  | 67 => ⟨S1000x18, .f32⟩
  | 68 => ⟨S1000x18, .i1⟩
  | 69 => ⟨S_, .f32⟩
  | 70 => ⟨S1000x18, .f32⟩
  | 71 => ⟨S1000x18, .f32⟩
  | 72 => ⟨S_, .i32⟩
  | 73 => ⟨S1000, .i32⟩
  | 74 => ⟨S1000, .i1⟩
  | 75 => ⟨S_, .i32⟩
  | 76 => ⟨S1000, .i32⟩
  | 77 => ⟨S1000, .i32⟩
  | 78 => ⟨S1000, .i32⟩
  | 79 => ⟨S1000x1, .i32⟩
  | 80 => ⟨S1, .i32⟩
  | 81 => ⟨S_, .i32⟩
  | 82 => ⟨S1000x1, .i32⟩
  | 83 => ⟨S1000x1, .i1⟩
  | 84 => ⟨S1x1, .i32⟩
  | 85 => ⟨S1000x1, .i32⟩
  | 86 => ⟨S1000x1, .i1⟩
  | 87 => ⟨S1000x1, .i1⟩
  | 88 => ⟨S_, .i1⟩
  | 89 => ⟨S1000, .i1⟩
  | 90 => ⟨S1000x3, .f32⟩
  | 91 => ⟨S1000x3, .i1⟩
  | 92 => ⟨S_, .f32⟩
  | 93 => ⟨S1000x3, .f32⟩
  | 94 => ⟨S1000x3, .f32⟩
  | 95 => ⟨S1000x6, .f32⟩
  | 96 => ⟨S1000x1, .f32⟩
  | 97 => ⟨S1000, .f32⟩
  | 98 => ⟨S1000x1, .f32⟩
  | 99 => ⟨S1000, .f32⟩
  | 100 => ⟨S1000, .f32⟩
  | 101 => ⟨S1000x1, .f32⟩
  | 102 => ⟨S1000, .f32⟩
  | 103 => ⟨S1000x1, .f32⟩
  | 104 => ⟨S1000, .f32⟩
  | 105 => ⟨S1000, .f32⟩
  | 106 => ⟨S1000x1, .f32⟩
  | 107 => ⟨S1000, .f32⟩
  | 108 => ⟨S1000x1, .f32⟩
  | 109 => ⟨S1000, .f32⟩
  | 110 => ⟨S1000, .f32⟩
  | 111 => ⟨S1000x1, .f32⟩
  | 112 => ⟨S1000, .f32⟩
  | 113 => ⟨S1000x1, .f32⟩
  | 114 => ⟨S1000, .f32⟩
  | 115 => ⟨S1000, .f32⟩
  | 116 => ⟨S1000x1, .f32⟩
  | 117 => ⟨S1000, .f32⟩
  | 118 => ⟨S1000x1, .f32⟩
  | 119 => ⟨S1000, .f32⟩
  | 120 => ⟨S1000, .f32⟩
  | 121 => ⟨S1000x1, .f32⟩
  | 122 => ⟨S1000, .f32⟩
  | 123 => ⟨S1000x1, .f32⟩
  | 124 => ⟨S1000, .f32⟩
  | 125 => ⟨S1000, .f32⟩
  | 126 => ⟨S1000x1, .f32⟩
  | 127 => ⟨S1000x1, .f32⟩
  | _ => ⟨S20000x1, .f32⟩

abbrev hbmTy0_1 (i : Nat) : BufTy := match i % 128 with
  | 0 => ⟨S1000x1, .f32⟩
  | 1 => ⟨S1000x1, .f32⟩
  | 2 => ⟨S1000x1, .f32⟩
  | 3 => ⟨S1000x1, .f32⟩
  | 4 => ⟨S1000x6, .f32⟩
  | 5 => ⟨S_, .f32⟩
  | 6 => ⟨S1000, .f32⟩
  | 7 => ⟨S1000x18, .i32⟩
  | 8 => ⟨S_, .f32⟩
  | 9 => ⟨S_, .i32⟩
  | 10 => ⟨S1000, .f32⟩
  | 11 => ⟨S1000, .i32⟩
  | 12 => ⟨S1000, .f32⟩
  | 13 => ⟨S1000, .i32⟩
  | 14 => ⟨S1000, .f32⟩
  | 15 => ⟨S1000, .i32⟩
  | 16 => ⟨S_, .i32⟩
  | 17 => ⟨S1000, .i32⟩
  | 18 => ⟨S1000, .i1⟩
  | 19 => ⟨S_, .i32⟩
  | 20 => ⟨S1000, .i32⟩
  | 21 => ⟨S1000, .i32⟩
  | 22 => ⟨S1000, .i32⟩
  | 23 => ⟨S1000x1, .i32⟩
  | 24 => ⟨S1000x6, .f32⟩
  | 25 => ⟨S_, .i32⟩
  | 26 => ⟨S1000, .i32⟩
  | 27 => ⟨S1000, .i1⟩
  | 28 => ⟨S_, .i32⟩
  | 29 => ⟨S1000, .i32⟩
  | 30 => ⟨S1000, .i32⟩
  | 31 => ⟨S1000, .i32⟩
  | 32 => ⟨S1000x1, .i32⟩
  | 33 => ⟨S1000, .f32⟩
  | 34 => ⟨S1000x1x6, .f32⟩
  | 35 => ⟨S1x1000x6, .f32⟩
  | 36 => ⟨S1000x1x3, .f32⟩
  | 37 => ⟨S1x1000x3, .f32⟩
  | 38 => ⟨S1000x1000x3, .f32⟩
  | 39 => ⟨S1000x1000x3, .f32⟩
  | 40 => ⟨S1000x1000x3, .f32⟩
  | 41 => ⟨S1000x1x3, .f32⟩
  | 42 => ⟨S1x1000x3, .f32⟩
  | 43 => ⟨S1000x1000x3, .f32⟩
  | 44 => ⟨S1000x1000x3, .f32⟩
  | 45 => ⟨S1000x1000x3, .f32⟩
  | 46 => ⟨S1000x1000x3, .f32⟩
  | 47 => ⟨S_, .f32⟩
  | 48 => ⟨S_, .f32⟩
  | 49 => ⟨S1000x1000x3, .f32⟩
  | 50 => ⟨S1000x1000x3, .f32⟩
  | 51 => ⟨S1000x1000x1, .f32⟩
  | 52 => ⟨S1000x1000, .f32⟩
  | 53 => ⟨S1000x1000x1, .f32⟩
  | 54 => ⟨S1000x1000, .f32⟩
  | 55 => ⟨S1000x1000, .f32⟩
  | 56 => ⟨S1000x1000x1, .f32⟩
  | 57 => ⟨S1000x1000, .f32⟩
  | 58 => ⟨S1000x1000, .f32⟩
  | 59 => ⟨S1000x3, .f32⟩
  | 60 => ⟨S1000x3, .f32⟩
  | 61 => ⟨S1000x3, .f32⟩
  | 62 => ⟨S_, .f32⟩
  | 63 => ⟨S_, .f32⟩
  | 64 => ⟨S1000x3, .f32⟩
  | 65 => ⟨S1000x3, .f32⟩
  | 66 => ⟨S1000x1, .f32⟩
  | 67 => ⟨S1000, .f32⟩
  | 68 => ⟨S1000x1, .f32⟩
  | 69 => ⟨S1000, .f32⟩
  | 70 => ⟨S1000, .f32⟩
  | 71 => ⟨S1000x1, .f32⟩
  | 72 => ⟨S1000, .f32⟩
  | 73 => ⟨S1000, .f32⟩
  | 74 => ⟨S1000x1, .f32⟩
  | 75 => ⟨S1x1000, .f32⟩
  | 76 => ⟨S1000x1000, .f32⟩
  | 77 => ⟨S1000x1000, .f32⟩
  | 78 => ⟨S1000x1000, .f32⟩
  | 79 => ⟨S1000x1000, .f32⟩
  | 80 => ⟨S_, .f32⟩
  | 81 => ⟨S1000x1000, .f32⟩
  | 82 => ⟨S1000x1000, .f32⟩
  | 83 => ⟨S1000x1000, .f32⟩
  | 84 => ⟨S1000, .i32⟩
  | 85 => ⟨S_, .i1⟩
  | 86 => ⟨S1000, .i1⟩
  | 87 => ⟨S_, .i32⟩
  | 88 => ⟨S_, .i32⟩
  | 89 => ⟨S1000x1000, .f32⟩
  | 90 => ⟨S1000, .i32⟩
  | 91 => ⟨S_, .i32⟩
  | 92 => ⟨S_, .i32⟩
  | 93 => ⟨S1000, .i1⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S1x1000, .f32⟩
  | 113 => ⟨S1000, .f32⟩
  | 114 => ⟨S_, .f32⟩
  | 115 => ⟨S1000, .f32⟩
  | 116 => ⟨S1000, .i1⟩
  | 117 => ⟨S_, .i32⟩
  | 118 => ⟨S1000, .i32⟩
  | 119 => ⟨S1000, .i1⟩
  | 120 => ⟨S1000, .i1⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S1, .i1⟩
  | _ => ⟨S20000x1, .f32⟩

abbrev hbmTy0_2 (i : Nat) : BufTy := match i % 128 with
  | 0 => ⟨S_, .i1⟩
  | 1 => ⟨S1000, .i1⟩
  | 2 => ⟨S1000, .i1⟩
  | 3 => ⟨S1000, .i1⟩
  | 4 => ⟨S1000, .i1⟩
  | 5 => ⟨S_, .i32⟩
  | 6 => ⟨S_, .i32⟩
  | 7 => ⟨S1000, .f32⟩
  | 8 => ⟨S1000, .f32⟩
  | 9 => ⟨S_, .i32⟩
  | 10 => ⟨S1000, .i32⟩
  | 11 => ⟨S1000, .i1⟩
  | 12 => ⟨S_, .i32⟩
  | 13 => ⟨S1000, .i32⟩
  | 14 => ⟨S1000, .i32⟩
  | 15 => ⟨S1000, .i32⟩
  | 16 => ⟨S1000x1, .i32⟩
  | 17 => ⟨S1, .i32⟩
  | 18 => ⟨S_, .i32⟩
  | 19 => ⟨S1000x1, .i32⟩
  | 20 => ⟨S1000x1, .i1⟩
  | 21 => ⟨S1x1, .i32⟩
  | 22 => ⟨S1000x1, .i32⟩
  | 23 => ⟨S1000x1, .i1⟩
  | 24 => ⟨S1000x1, .i1⟩
  | 25 => ⟨S_, .i1⟩
  | 26 => ⟨S1000, .i1⟩
  | 27 => ⟨S1000, .i32⟩
  | 28 => ⟨S_, .i32⟩
  | 29 => ⟨S1000, .i32⟩
  | 30 => ⟨S1000, .i32⟩
  | _ => ⟨S20000x1, .f32⟩

abbrev hbmTy (i : Nat) : BufTy := match i / 128 with
  | 0 => hbmTy0_0 i
  | 1 => hbmTy0_1 i
  | 2 => hbmTy0_2 i
  | _ => ⟨S20000x1, .f32⟩

abbrev bufTy : (tb : Table) → Fin (tcTables nBuf tb) → BufTy
  | .hbm, ⟨i, _⟩ => hbmTy i
  | _, _ => ⟨S20000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_values : Ref sig .tc := ⟨.hbm, 24, rfl⟩
abbrev main_indices : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v15 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v16 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_cst_4 : Ref sig .tc := ⟨.hbm, 133, rfl⟩
abbrev main_v56 : Ref sig .tc := ⟨.hbm, 134, rfl⟩
abbrev main_call3_v0 : Ref sig .tc := ⟨.hbm, 135, rfl⟩
abbrev main_call3_cst : Ref sig .tc := ⟨.hbm, 136, rfl⟩
abbrev main_call3_c : Ref sig .tc := ⟨.hbm, 137, rfl⟩
abbrev main_call3_v1_0 : Ref sig .tc := ⟨.hbm, 138, rfl⟩
abbrev main_v57 : Ref sig .tc := ⟨.hbm, 139, rfl⟩
abbrev main_v58 : Ref sig .tc := ⟨.hbm, 140, rfl⟩
abbrev main_call4_v0 : Ref sig .tc := ⟨.hbm, 141, rfl⟩
abbrev main_call4_v1_0 : Ref sig .tc := ⟨.hbm, 142, rfl⟩
abbrev main_v59 : Ref sig .tc := ⟨.hbm, 143, rfl⟩
abbrev main_c : Ref sig .tc := ⟨.hbm, 144, rfl⟩
abbrev main_v60 : Ref sig .tc := ⟨.hbm, 145, rfl⟩
abbrev main_v61 : Ref sig .tc := ⟨.hbm, 146, rfl⟩
abbrev main_c_5 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_c_6 : Ref sig .tc := ⟨.hbm, 153, rfl⟩
abbrev main_v67 : Ref sig .tc := ⟨.hbm, 154, rfl⟩
abbrev main_v68 : Ref sig .tc := ⟨.hbm, 155, rfl⟩
abbrev main_c_7 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_cst_8 : Ref sig .tc := ⟨.hbm, 175, rfl⟩
abbrev main_call5_v0 : Ref sig .tc := ⟨.hbm, 176, rfl⟩
abbrev main_call5_v1 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_cst_9 : Ref sig .tc := ⟨.hbm, 190, rfl⟩
abbrev main_call6_v0 : Ref sig .tc := ⟨.hbm, 191, rfl⟩
abbrev main_call6_v1 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_cst_10 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_c_11 : Ref sig .tc := ⟨.hbm, 213, rfl⟩
abbrev main_v118 : Ref sig .tc := ⟨.hbm, 214, rfl⟩
abbrev main_c_12 : Ref sig .tc := ⟨.hbm, 215, rfl⟩
abbrev main_c_13 : Ref sig .tc := ⟨.hbm, 216, rfl⟩
abbrev main_v119_0 : Ref sig .tc := ⟨.hbm, 217, rfl⟩
abbrev main_v119_1 : Ref sig .tc := ⟨.hbm, 218, rfl⟩
abbrev main_v119_2 : Ref sig .tc := ⟨.hbm, 219, rfl⟩
abbrev main_v119_3 : Ref sig .tc := ⟨.hbm, 220, rfl⟩
abbrev main_v119_4 : Ref sig .tc := ⟨.hbm, 221, rfl⟩
abbrev main_while0c_c_18 : Ref sig .tc := ⟨.hbm, 222, rfl⟩
abbrev main_while0c_v123 : Ref sig .tc := ⟨.hbm, 223, rfl⟩
abbrev main_while0b_c_18 : Ref sig .tc := ⟨.hbm, 224, rfl⟩
abbrev main_while0b_v123 : Ref sig .tc := ⟨.hbm, 225, rfl⟩
abbrev main_while0b_v124 : Ref sig .tc := ⟨.hbm, 226, rfl⟩
abbrev main_while0b_c_19 : Ref sig .tc := ⟨.hbm, 227, rfl⟩
abbrev main_while0b_v125 : Ref sig .tc := ⟨.hbm, 228, rfl⟩
abbrev main_while0b_c_20 : Ref sig .tc := ⟨.hbm, 229, rfl⟩
abbrev main_while0b_v126 : Ref sig .tc := ⟨.hbm, 230, rfl⟩
abbrev main_while0b_v127 : Ref sig .tc := ⟨.hbm, 231, rfl⟩
abbrev main_while0b_c_21 : Ref sig .tc := ⟨.hbm, 232, rfl⟩
abbrev main_while0b_c_22 : Ref sig .tc := ⟨.hbm, 233, rfl⟩
abbrev main_while0b_v128 : Ref sig .tc := ⟨.hbm, 234, rfl⟩
abbrev main_while0b_c_23 : Ref sig .tc := ⟨.hbm, 235, rfl⟩
abbrev main_while0b_c_24 : Ref sig .tc := ⟨.hbm, 236, rfl⟩
abbrev main_while0b_v129 : Ref sig .tc := ⟨.hbm, 237, rfl⟩
abbrev main_while0b_c_25 : Ref sig .tc := ⟨.hbm, 238, rfl⟩
abbrev main_while0b_v130 : Ref sig .tc := ⟨.hbm, 239, rfl⟩
abbrev main_while0b_v131 : Ref sig .tc := ⟨.hbm, 240, rfl⟩
abbrev main_while0b_v132 : Ref sig .tc := ⟨.hbm, 241, rfl⟩
abbrev main_while0b_cst_26 : Ref sig .tc := ⟨.hbm, 242, rfl⟩
abbrev main_while0b_v133 : Ref sig .tc := ⟨.hbm, 243, rfl⟩
abbrev main_while0b_v134 : Ref sig .tc := ⟨.hbm, 244, rfl⟩
abbrev main_while0b_v135 : Ref sig .tc := ⟨.hbm, 245, rfl⟩
abbrev main_while0b_v136 : Ref sig .tc := ⟨.hbm, 246, rfl⟩
abbrev main_while0b_v137 : Ref sig .tc := ⟨.hbm, 247, rfl⟩
abbrev main_while0b_v138 : Ref sig .tc := ⟨.hbm, 248, rfl⟩
abbrev main_while0b_c_27 : Ref sig .tc := ⟨.hbm, 249, rfl⟩
abbrev main_while0b_v139 : Ref sig .tc := ⟨.hbm, 250, rfl⟩
abbrev main_while0b_v140 : Ref sig .tc := ⟨.hbm, 251, rfl⟩
abbrev main_while0b_c_28 : Ref sig .tc := ⟨.hbm, 252, rfl⟩
abbrev main_while0b_v141 : Ref sig .tc := ⟨.hbm, 253, rfl⟩
abbrev main_while0b_v142 : Ref sig .tc := ⟨.hbm, 254, rfl⟩
abbrev main_while0b_v143 : Ref sig .tc := ⟨.hbm, 255, rfl⟩
abbrev main_while0b_v144 : Ref sig .tc := ⟨.hbm, 256, rfl⟩
abbrev main_while0b_v145 : Ref sig .tc := ⟨.hbm, 257, rfl⟩
abbrev main_while0b_v146 : Ref sig .tc := ⟨.hbm, 258, rfl⟩
abbrev main_while0b_v147 : Ref sig .tc := ⟨.hbm, 259, rfl⟩
abbrev main_while0b_v148 : Ref sig .tc := ⟨.hbm, 260, rfl⟩
abbrev main_while0b_c_29 : Ref sig .tc := ⟨.hbm, 261, rfl⟩
abbrev main_while0b_v149 : Ref sig .tc := ⟨.hbm, 262, rfl⟩
abbrev main_v120 : Ref sig .tc := ⟨.hbm, 263, rfl⟩
abbrev main_v121 : Ref sig .tc := ⟨.hbm, 264, rfl⟩
abbrev main_call7_c : Ref sig .tc := ⟨.hbm, 265, rfl⟩
abbrev main_call7_v0 : Ref sig .tc := ⟨.hbm, 266, rfl⟩
abbrev main_call7_v1 : Ref sig .tc := ⟨.hbm, 267, rfl⟩
abbrev main_call7_c_0 : Ref sig .tc := ⟨.hbm, 268, rfl⟩
abbrev main_call7_v2 : Ref sig .tc := ⟨.hbm, 269, rfl⟩
abbrev main_call7_v3 : Ref sig .tc := ⟨.hbm, 270, rfl⟩
abbrev main_call7_v4 : Ref sig .tc := ⟨.hbm, 271, rfl⟩
abbrev main_call7_v5 : Ref sig .tc := ⟨.hbm, 272, rfl⟩
abbrev main_call7_c_1 : Ref sig .tc := ⟨.hbm, 273, rfl⟩
abbrev main_call7_c_2 : Ref sig .tc := ⟨.hbm, 274, rfl⟩
abbrev main_call7_v6 : Ref sig .tc := ⟨.hbm, 275, rfl⟩
abbrev main_call7_v7 : Ref sig .tc := ⟨.hbm, 276, rfl⟩
abbrev main_call7_v8 : Ref sig .tc := ⟨.hbm, 277, rfl⟩
abbrev main_call7_v9 : Ref sig .tc := ⟨.hbm, 278, rfl⟩
abbrev main_call7_v10 : Ref sig .tc := ⟨.hbm, 279, rfl⟩
abbrev main_call7_v11 : Ref sig .tc := ⟨.hbm, 280, rfl⟩
abbrev main_call7_c_3 : Ref sig .tc := ⟨.hbm, 281, rfl⟩
abbrev main_call7_v12 : Ref sig .tc := ⟨.hbm, 282, rfl⟩
abbrev main_call7_v13 : Ref sig .tc := ⟨.hbm, 283, rfl⟩
abbrev main_call7_c_4 : Ref sig .tc := ⟨.hbm, 284, rfl⟩
abbrev main_call7_v14 : Ref sig .tc := ⟨.hbm, 285, rfl⟩
abbrev main_v122 : Ref sig .tc := ⟨.hbm, 286, rfl⟩

abbrev nD : Nat := 1
abbrev τ : Topo := Topo.v7x

variable {F : FTy → Type} [FloatOps F]

abbrev main_while0_count : Scf.Loop 32 := ⟨0#32, 1000#32, 1#32⟩
-- ==== Proof.Net.lean ====
/- The sorting network of the first call as a function on (values, indices), stage after stage, and the kernel's
   body as the short program over it. -/
module

public import proofs.«01_k».proof.Proof.Gen.KernelIdeal.Skeleton
public import Idealize.ShloMosaic.Lib.Tactic

@[expose] public section

set_option maxRecDepth 65536

noncomputable section

namespace Cert.Proof

open Cert.KernelIdeal Cert.KernelIdeal.Gen
open Idealize.ShloMosaic Idealize.SL.Sem

variable {F : FTy → Type} [FloatOps F]

/-- The column a stage works on: 32768 values and their indices. -/
abbrev Col (F : FTy → Type) [FloatOps F] : Type := FVec F S256x128 .f32 × IVec S256x128 32

/-- The row and the lane of every position. -/
def rowIota : IVec S256x128 32 := iota .tc S256x128 32 [0] iota_S256x128_d0_w32
def laneIota : IVec S256x128 32 := iota .tc S256x128 32 [1] iota_S256x128_d1_w32

/-- Where bit `j` of a coordinate is set. -/
def bitSet (w : IVec S256x128 32) (j : BitVec 32) : IVec S256x128 1 :=
  cmpi .ne (andi w (broadcast S256x128 j)) (broadcast S256x128 0#32)

/-- Where bit `k` of a coordinate is clear. -/
def bitClear (w : IVec S256x128 32) (k : BitVec 32) : IVec S256x128 1 :=
  cmpi .eq (andi w (broadcast S256x128 k)) (broadcast S256x128 0#32)

/-- Whether a position's own entry comes before its partner's: the greater value, at equal values the smaller index. -/
def selfFirst (s p : Col F) : IVec S256x128 1 :=
  ori (cmpf .ogt s.1 p.1) (andi (cmpf .oeq s.1 p.1) (cmpi .slt s.2 p.2))

/-- Keep one's own entry or take the partner's. -/
def settle (dir : IVec S256x128 1) (s p : Col F) : Col F :=
  (select (xori (selfFirst s p) dir) s.1 p.1, select (xori (selfFirst s p) dir) s.2 p.2)

/-- The partners' entries at a distance along the lanes, and along the rows. -/
def laneMate (j j' : BitVec 32) (bit : IVec S256x128 1) (s : Col F) : Col F :=
  (select bit (dynamicRotate 1 j none s.1 rotates_S256x128_d1) (dynamicRotate 1 j' none s.1 rotates_S256x128_d1),
   select bit (dynamicRotate 1 j none s.2 rotates_S256x128_d1) (dynamicRotate 1 j' none s.2 rotates_S256x128_d1))
def rowMate (j j' : BitVec 32) (bit : IVec S256x128 1) (s : Col F) : Col F :=
  (select bit (dynamicRotate 0 j none s.1 rotates_S256x128_d0) (dynamicRotate 0 j' none s.1 rotates_S256x128_d0),
   select bit (dynamicRotate 0 j none s.2 rotates_S256x128_d0) (dynamicRotate 0 j' none s.2 rotates_S256x128_d0))

/-- The positions with bit `d` of the flat index set. -/
def flatBit (d : ℕ) : IVec S256x128 1 :=
  if d < 7 then bitSet laneIota (BitVec.ofNat 32 (2 ^ d)) else bitSet rowIota (BitVec.ofNat 32 (2 ^ (d - 7)))

/-- The partners' entries at distance `2 ^ d` of the flat index. -/
def mate (d : ℕ) (s : Col F) : Col F :=
  if d < 7 then laneMate (BitVec.ofNat 32 (2 ^ d)) (BitVec.ofNat 32 (128 - 2 ^ d)) (flatBit d) s
  else rowMate (BitVec.ofNat 32 (2 ^ (d - 7))) (BitVec.ofNat 32 (256 - 2 ^ (d - 7))) (flatBit d) s

/-- The direction mask of level `t` at distance `2 ^ d`: the blocks of `2 ^ t` alternate, the last level descends. -/
def direction (t d : ℕ) : IVec S256x128 1 :=
  if t < 15 then
    xori (if t < 7 then bitClear laneIota (BitVec.ofNat 32 (2 ^ t)) else bitClear rowIota (BitVec.ofNat 32 (2 ^ (t - 7))))
      (xori (flatBit d) (constantI S256x128 1 1#1))
  else flatBit d

/-- One stage: level `t`, distance `2 ^ d`. -/
def stageStep (s : Col F) (td : ℕ × ℕ) : Col F := settle (direction td.1 td.2) s (mate td.2 s)

/-- The 120 stages in order. -/
def plan : List (ℕ × ℕ) :=
  (List.range 15).flatMap fun l => (List.range (l + 1)).reverse.map fun d => (l + 1, d)

/-- The whole network. -/
def sortCol (s : Col F) : Col F := plan.foldl stageStep s

/-- The column before the first stage: each position's greatest score or the padding, and its flat index. -/
def startCol (x : Vec F S157x128x18 .f32) (y : Vec F S157x128 .f32) : Col F := (k0_pay14 x y, k0_pay15)

/-- What the call leaves in its outputs. -/
def topIdx (x : Vec F S157x128x18 .f32) (y : Vec F S157x128 .f32) : IVec S8x128 32 :=
  extractStridedSlice S8x128 ![0, 0] (sortCol (startCol x y)).2 slices_S256x128_o0_0_S8x128
def topVal (x : Vec F S157x128x18 .f32) (y : Vec F S157x128 .f32) : FVec F S8x128 .f32 :=
  extractStridedSlice S8x128 ![0, 0] (sortCol (startCol x y)).1 slices_S256x128_o0_0_S8x128

/-- The first call's body as six memory operations. -/
def topProg (arg0 : Memref sig .tc .vmem S157x128x18 .f32) (harg0 : arg0.IsWhole) (arg1 : Memref sig .tc .vmem S157x128 .f32) (harg1 : arg1.IsWhole) (arg2 : Memref sig .tc .vmem S8x128 .i32) (harg2 : arg2.IsWhole) (arg3 : Memref sig .tc .vmem S8x128 .f32) (harg3 : arg3.IsWhole) (arg4 : Memref sig .tc .vmem S157x128 .f32) (harg4 : arg4.IsWhole) :
    Prog (TpuEff nD τ sig (Elt F) Λ₀ .tc) PUnit := do
  let x : Vec F S157x128x18 .f32 ← Prog.lift (.load arg0 (Rect.unit (s := S157x128x18) ![0, 0, 0] S157x128x18.size inb_S157x128x18_S157x128x18_0_0_0).toLoadRect (View.loadsAt_vmem h_S157x128x18))
  let y : Vec F S157x128 .f32 ← Prog.lift (.load arg1 (Rect.unit (s := S157x128) ![0, 0] S157x128.size inb_S157x128_S157x128_0_0).toLoadRect (View.loadsAt_vmem h_S157x128))
  let _ : Vec F S157x128 .f32 ← Prog.lift (.load arg4 (Rect.unit (s := S157x128) ![0, 0] S157x128.size inb_S157x128_S157x128_0_0).toLoadRect (View.loadsAt_vmem h_S157x128))
  Prog.lift (.store arg4 (Rect.unit (s := S157x128) ![0, 0] S157x128.size inb_S157x128_S157x128_0_0) (k0_pay13 x y) Finset.univ (View.stores_vmem_bits_univ h_S157x128 rfl) (.inl rfl))
  let _ : Vec F S8x128 .i32 ← Prog.lift (.load arg2 (Rect.unit (s := S8x128) ![0, 0] S8x128.size inb_S8x128_S8x128_0_0).toLoadRect (View.loadsAt_vmem h_S8x128))
  Prog.lift (.store arg2 (Rect.unit (s := S8x128) ![0, 0] S8x128.size inb_S8x128_S8x128_0_0) (topIdx x y) Finset.univ (View.stores_vmem_bits_univ h_S8x128 rfl) (.inl rfl))
  let _ : Vec F S8x128 .f32 ← Prog.lift (.load arg3 (Rect.unit (s := S8x128) ![0, 0] S8x128.size inb_S8x128_S8x128_0_0).toLoadRect (View.loadsAt_vmem h_S8x128))
  Prog.lift (.store arg3 (Rect.unit (s := S8x128) ![0, 0] S8x128.size inb_S8x128_S8x128_0_0) (topVal x y) Finset.univ (View.stores_vmem_bits_univ h_S8x128 rfl) (.inl rfl))
  pure ⟨⟩

/-- The printed body is that program. -/
theorem topk_eq (arg0 : Memref sig .tc .vmem S157x128x18 .f32) (harg0 : arg0.IsWhole) (arg1 : Memref sig .tc .vmem S157x128 .f32) (harg1 : arg1.IsWhole) (arg2 : Memref sig .tc .vmem S8x128 .i32) (harg2 : arg2.IsWhole) (arg3 : Memref sig .tc .vmem S8x128 .f32) (harg3 : arg3.IsWhole) (arg4 : Memref sig .tc .vmem S157x128 .f32) (harg4 : arg4.IsWhole) :
    cc0__topk_kernel (F := F) arg0 harg0 arg1 harg1 arg2 harg2 arg3 harg3 arg4 harg4
      = topProg arg0 harg0 arg1 harg1 arg2 harg2 arg3 harg3 arg4 harg4 := by
  sl_kernel_rfl

end Cert.Proof
end
-- ==== Proof.Nms.lean ====
/- The second call's values as functions of its operands — the gathers, the boxes, the overlap mask, the loop —, and the
   kernel's body as the short program over them. -/
module

public import proofs.«01_k».proof.Proof.Gen.KernelIdeal.Skeleton
public import Idealize.ShloMosaic.Lib.Tactic

@[expose] public section

set_option maxRecDepth 65536

noncomputable section

namespace Cert.Proof

open Cert.KernelIdeal Cert.KernelIdeal.Gen
open Idealize.ShloMosaic Idealize.SL.Sem

variable {F : FTy → Type} [FloatOps F]

/-- One chunk of 2048 payload rows gathered by the column of indices: the one-hot rows times the chunk, added on. -/
def colStep (v : IVec S1024x1 32) (acc : FVec F S1024x16 .f32) (c : ℕ × Vec F S2048x16 .f32) : FVec F S1024x16 .f32 :=
  addf acc (matmul dot_S1024x2048_S2048x16_S1024x16_1_0_0_1_n_n none
    (sitofp .f32 (extui 32 (cmpi .eq (broadcastTo S1024x2048 v broadcasts_S1024x1_S1024x2048)
      (broadcastTo S1024x2048 (addi (iota .tc S1x2048 32 [1] iota_S1x2048_d1_w32) (broadcast S1x2048 (BitVec.ofNat 32 c.1))) broadcasts_S1x2048_S1024x2048)) natLt_1_32))
    (shapeCast S2048x16 c.2 shapeCasts_S2048x16_S2048x16) (constant S1024x16 .f32 0x00000000#32))

/-- The gather by column, over all the chunks. -/
def gatherCol (v : Vec F S1024x1 .i32) (cs : List (ℕ × Vec F S2048x16 .f32)) : FVec F S1024x16 .f32 :=
  cs.foldl (colStep (shapeCast S1024x1 v shapeCasts_S1024x1_S1024x1)) (broadcast S1024x16 (Scalar.ofBits .f32 0x00000000#32))

/-- The same by the row of indices, of the transposed payload. -/
def rowStep (v : IVec S1x1024 32) (acc : FVec F S16x1024 .f32) (c : ℕ × Vec F S16x2048 .f32) : FVec F S16x1024 .f32 :=
  addf acc (matmul dot_S16x2048_S2048x1024_S16x1024_1_0_0_1_n_n none (shapeCast S16x2048 c.2 shapeCasts_S16x2048_S16x2048)
    (sitofp .f32 (extui 32 (cmpi .eq
      (broadcastTo S2048x1024 (addi (iota .tc S2048x1 32 [0] iota_S2048x1_d0_w32) (broadcast S2048x1 (BitVec.ofNat 32 c.1))) broadcasts_S2048x1_S2048x1024)
      (broadcastTo S2048x1024 v broadcasts_S1x1024_S2048x1024)) natLt_1_32))
    (constant S16x1024 .f32 0x00000000#32))
def gatherRow (v : Vec F S1x1024 .i32) (cs : List (ℕ × Vec F S16x2048 .f32)) : FVec F S16x1024 .f32 :=
  cs.foldl (rowStep (shapeCast S1x1024 v shapeCasts_S1x1024_S1x1024)) (broadcast S16x1024 (Scalar.ofBits .f32 0x00000000#32))

/-- The lower and upper corners, by column and by row, and the volumes. -/
def loCol (g : FVec F S1024x16 .f32) : FVec F S1024x3 .f32 :=
  subf (extractStridedSlice S1024x3 ![0, 6] g slices_S1024x16_o0_6_S1024x3)
    (extractStridedSlice S1024x3 ![0, 0] (exp (extractStridedSlice S1024x6 ![0, 0] g slices_S1024x16_o0_0_S1024x6)) slices_S1024x6_o0_0_S1024x3)
def hiCol (g : FVec F S1024x16 .f32) : FVec F S1024x3 .f32 :=
  addf (extractStridedSlice S1024x3 ![0, 6] g slices_S1024x16_o0_6_S1024x3)
    (extractStridedSlice S1024x3 ![0, 3] (exp (extractStridedSlice S1024x6 ![0, 0] g slices_S1024x16_o0_0_S1024x6)) slices_S1024x6_o0_3_S1024x3)
def loRow (g : FVec F S16x1024 .f32) : FVec F S3x1024 .f32 :=
  subf (extractStridedSlice S3x1024 ![6, 0] g slices_S16x1024_o6_0_S3x1024)
    (extractStridedSlice S3x1024 ![0, 0] (exp (extractStridedSlice S6x1024 ![0, 0] g slices_S16x1024_o0_0_S6x1024)) slices_S6x1024_o0_0_S3x1024)
def hiRow (g : FVec F S16x1024 .f32) : FVec F S3x1024 .f32 :=
  addf (extractStridedSlice S3x1024 ![6, 0] g slices_S16x1024_o6_0_S3x1024)
    (extractStridedSlice S3x1024 ![3, 0] (exp (extractStridedSlice S6x1024 ![0, 0] g slices_S16x1024_o0_0_S6x1024)) slices_S6x1024_o3_0_S3x1024)
def extCol (g : FVec F S1024x16 .f32) : FVec F S1024x3 .f32 :=
  maximumf (broadcast S1024x3 (Scalar.ofBits .f32 0x00000000#32)) (subf (hiCol g) (loCol g))
def extRow (g : FVec F S16x1024 .f32) : FVec F S3x1024 .f32 :=
  maximumf (broadcast S3x1024 (Scalar.ofBits .f32 0x00000000#32)) (subf (hiRow g) (loRow g))
def volCol (g : FVec F S1024x16 .f32) : FVec F S1024x1 .f32 :=
  mulf (mulf (extractStridedSlice S1024x1 ![0, 0] (extCol g) slices_S1024x3_o0_0_S1024x1)
    (extractStridedSlice S1024x1 ![0, 1] (extCol g) slices_S1024x3_o0_1_S1024x1))
    (extractStridedSlice S1024x1 ![0, 2] (extCol g) slices_S1024x3_o0_2_S1024x1)
def volRow (g : FVec F S16x1024 .f32) : FVec F S1x1024 .f32 :=
  mulf (mulf (extractStridedSlice S1x1024 ![0, 0] (extRow g) slices_S3x1024_o0_0_S1x1024)
    (extractStridedSlice S1x1024 ![1, 0] (extRow g) slices_S3x1024_o1_0_S1x1024))
    (extractStridedSlice S1x1024 ![2, 0] (extRow g) slices_S3x1024_o2_0_S1x1024)

/-- The boxes. -/
def boxes (g : FVec F S1024x16 .f32) : FVec F S1024x6 .f32 :=
  concatenate S1024x6 1 [⟨S1024x3, loCol g⟩, ⟨S1024x3, hiCol g⟩] concatenates_S1024x3_S1024x3_S1024x6_d1

/-- Where a row tile of 128 boxes and one axis of it are cut. -/
theorem tile_slices (r : Fin 8) (d : Fin 3) : S1024x3.Slices ![128 * r.val, d.val] S128x1 := by revert r d; decide
theorem tile_slices1 (r : Fin 8) : S1024x1.Slices ![128 * r.val, 0] S128x1 := by revert r; decide
theorem axis_slices (d : Fin 3) : S3x1024.Slices ![d.val, 0] S1x1024 := by revert d; decide

/-- One axis's overlap of a row tile's boxes with every box. -/
def overlap (gc : FVec F S1024x16 .f32) (gr : FVec F S16x1024 .f32) (r : Fin 8) (d : Fin 3) : FVec F S128x1024 .f32 :=
  maximumf (broadcast S128x1024 (Scalar.ofBits .f32 0x00000000#32))
    (subf
      (minimumf (broadcastTo S128x1024 (extractStridedSlice S128x1 ![128 * r.val, d.val] (hiCol gc) (tile_slices r d)) broadcasts_S128x1_S128x1024)
        (broadcastTo S128x1024 (extractStridedSlice S1x1024 ![d.val, 0] (hiRow gr) (axis_slices d)) broadcasts_S1x1024_S128x1024))
      (maximumf (broadcastTo S128x1024 (extractStridedSlice S128x1 ![128 * r.val, d.val] (loCol gc) (tile_slices r d)) broadcasts_S128x1_S128x1024)
        (broadcastTo S128x1024 (extractStridedSlice S1x1024 ![d.val, 0] (loRow gr) (axis_slices d)) broadcasts_S1x1024_S128x1024)))

/-- A row tile's intersection volumes. -/
def inter (gc : FVec F S1024x16 .f32) (gr : FVec F S16x1024 .f32) (r : Fin 8) : FVec F S128x1024 .f32 :=
  mulf (mulf (mulf (broadcast S128x1024 (Scalar.ofBits .f32 0x3F800000#32)) (overlap gc gr r 0)) (overlap gc gr r 1)) (overlap gc gr r 2)

/-- A row tile of the mask: 1 where the ratio of intersection to union is above the threshold. -/
def tile (gc : FVec F S1024x16 .f32) (gr : FVec F S16x1024 .f32) (r : Fin 8) : FVec F S128x1024 .f32 :=
  shapeCast S128x1024 (sitofp .f32 (extui 32 (cmpf .ogt
    (divf (inter gc gr r)
      (maximumf (subf
        (addf (broadcastTo S128x1024 (extractStridedSlice S128x1 ![128 * r.val, 0] (volCol gc) (tile_slices1 r)) broadcasts_S128x1_S128x1024)
          (broadcastTo S128x1024 (volRow gr) broadcasts_S1x1024_S128x1024)) (inter gc gr r))
        (broadcast S128x1024 (Scalar.ofBits .f32 0x358637BD#32))))
    (broadcast S128x1024 (Scalar.ofBits .f32 0x3F000000#32))) natLt_1_32)) shapeCasts_S128x1024_S128x1024

/-- The second call's body. -/
def nmsProg (arg0 : Memref sig .tc .vmem S1024x1 .i32) (harg0 : arg0.IsWhole) (arg1 : Memref sig .tc .vmem S1x1024 .i32) (harg1 : arg1.IsWhole) (arg2 : Memref sig .tc .vmem S1x1024 .f32) (harg2 : arg2.IsWhole) (arg3 : Memref sig .tc .vmem S20480x16 .f32) (harg3 : arg3.IsWhole) (arg4 : Memref sig .tc .vmem S16x20480 .f32) (harg4 : arg4.IsWhole) (arg5 : Memref sig .tc .vmem S1024x6 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) :
    Prog (TpuEff nD τ sig (Elt F) Λ₀ .tc) PUnit := do
  let v : Vec F S1024x1 .i32 ← Prog.lift (.load arg0 (Rect.unit (s := S1024x1) ![0, 0] S1024x1.size inb_S1024x1_S1024x1_0_0).toLoadRect (View.loadsAt_vmem h_S1024x1))
  let w : Vec F S1x1024 .i32 ← Prog.lift (.load arg1 (Rect.unit (s := S1x1024) ![0, 0] S1x1024.size inb_S1x1024_S1x1024_0_0).toLoadRect (View.loadsAt_vmem h_S1x1024))
  let p0 : Vec F S2048x16 .f32 ← Prog.lift (.load arg3 (Rect.unit (s := S20480x16) ![0, 0] S2048x16.size inb_S20480x16_S2048x16_0_0).toLoadRect (View.loadsAt_vmem h_S2048x16))
  let p1 : Vec F S2048x16 .f32 ← Prog.lift (.load arg3 (Rect.unit (s := S20480x16) ![2048, 0] S2048x16.size inb_S20480x16_S2048x16_2048_0).toLoadRect (View.loadsAt_vmem h_S2048x16))
  let p2 : Vec F S2048x16 .f32 ← Prog.lift (.load arg3 (Rect.unit (s := S20480x16) ![4096, 0] S2048x16.size inb_S20480x16_S2048x16_4096_0).toLoadRect (View.loadsAt_vmem h_S2048x16))
  let p3 : Vec F S2048x16 .f32 ← Prog.lift (.load arg3 (Rect.unit (s := S20480x16) ![6144, 0] S2048x16.size inb_S20480x16_S2048x16_6144_0).toLoadRect (View.loadsAt_vmem h_S2048x16))
  let p4 : Vec F S2048x16 .f32 ← Prog.lift (.load arg3 (Rect.unit (s := S20480x16) ![8192, 0] S2048x16.size inb_S20480x16_S2048x16_8192_0).toLoadRect (View.loadsAt_vmem h_S2048x16))
  let p5 : Vec F S2048x16 .f32 ← Prog.lift (.load arg3 (Rect.unit (s := S20480x16) ![10240, 0] S2048x16.size inb_S20480x16_S2048x16_10240_0).toLoadRect (View.loadsAt_vmem h_S2048x16))
  let p6 : Vec F S2048x16 .f32 ← Prog.lift (.load arg3 (Rect.unit (s := S20480x16) ![12288, 0] S2048x16.size inb_S20480x16_S2048x16_12288_0).toLoadRect (View.loadsAt_vmem h_S2048x16))
  let p7 : Vec F S2048x16 .f32 ← Prog.lift (.load arg3 (Rect.unit (s := S20480x16) ![14336, 0] S2048x16.size inb_S20480x16_S2048x16_14336_0).toLoadRect (View.loadsAt_vmem h_S2048x16))
  let p8 : Vec F S2048x16 .f32 ← Prog.lift (.load arg3 (Rect.unit (s := S20480x16) ![16384, 0] S2048x16.size inb_S20480x16_S2048x16_16384_0).toLoadRect (View.loadsAt_vmem h_S2048x16))
  let p9 : Vec F S2048x16 .f32 ← Prog.lift (.load arg3 (Rect.unit (s := S20480x16) ![18432, 0] S2048x16.size inb_S20480x16_S2048x16_18432_0).toLoadRect (View.loadsAt_vmem h_S2048x16))
  let gc : FVec F S1024x16 .f32 := gatherCol v [(0, p0), (2048, p1), (4096, p2), (6144, p3), (8192, p4), (10240, p5), (12288, p6), (14336, p7), (16384, p8), (18432, p9)]
  let q0 : Vec F S16x2048 .f32 ← Prog.lift (.load arg4 (Rect.unit (s := S16x20480) ![0, 0] S16x2048.size inb_S16x20480_S16x2048_0_0).toLoadRect (View.loadsAt_vmem h_S16x2048))
  let q1 : Vec F S16x2048 .f32 ← Prog.lift (.load arg4 (Rect.unit (s := S16x20480) ![0, 2048] S16x2048.size inb_S16x20480_S16x2048_0_2048).toLoadRect (View.loadsAt_vmem h_S16x2048))
  let q2 : Vec F S16x2048 .f32 ← Prog.lift (.load arg4 (Rect.unit (s := S16x20480) ![0, 4096] S16x2048.size inb_S16x20480_S16x2048_0_4096).toLoadRect (View.loadsAt_vmem h_S16x2048))
  let q3 : Vec F S16x2048 .f32 ← Prog.lift (.load arg4 (Rect.unit (s := S16x20480) ![0, 6144] S16x2048.size inb_S16x20480_S16x2048_0_6144).toLoadRect (View.loadsAt_vmem h_S16x2048))
  let q4 : Vec F S16x2048 .f32 ← Prog.lift (.load arg4 (Rect.unit (s := S16x20480) ![0, 8192] S16x2048.size inb_S16x20480_S16x2048_0_8192).toLoadRect (View.loadsAt_vmem h_S16x2048))
  let q5 : Vec F S16x2048 .f32 ← Prog.lift (.load arg4 (Rect.unit (s := S16x20480) ![0, 10240] S16x2048.size inb_S16x20480_S16x2048_0_10240).toLoadRect (View.loadsAt_vmem h_S16x2048))
  let q6 : Vec F S16x2048 .f32 ← Prog.lift (.load arg4 (Rect.unit (s := S16x20480) ![0, 12288] S16x2048.size inb_S16x20480_S16x2048_0_12288).toLoadRect (View.loadsAt_vmem h_S16x2048))
  let q7 : Vec F S16x2048 .f32 ← Prog.lift (.load arg4 (Rect.unit (s := S16x20480) ![0, 14336] S16x2048.size inb_S16x20480_S16x2048_0_14336).toLoadRect (View.loadsAt_vmem h_S16x2048))
  let q8 : Vec F S16x2048 .f32 ← Prog.lift (.load arg4 (Rect.unit (s := S16x20480) ![0, 16384] S16x2048.size inb_S16x20480_S16x2048_0_16384).toLoadRect (View.loadsAt_vmem h_S16x2048))
  let q9 : Vec F S16x2048 .f32 ← Prog.lift (.load arg4 (Rect.unit (s := S16x20480) ![0, 18432] S16x2048.size inb_S16x20480_S16x2048_0_18432).toLoadRect (View.loadsAt_vmem h_S16x2048))
  let gr : FVec F S16x1024 .f32 := gatherRow w [(0, q0), (2048, q1), (4096, q2), (6144, q3), (8192, q4), (10240, q5), (12288, q6), (14336, q7), (16384, q8), (18432, q9)]
  let _ : Vec F S1024x6 .f32 ← Prog.lift (.load arg5 (Rect.unit (s := S1024x6) ![0, 0] S1024x6.size inb_S1024x6_S1024x6_0_0).toLoadRect (View.loadsAt_vmem h_S1024x6))
  Prog.lift (.store arg5 (Rect.unit (s := S1024x6) ![0, 0] S1024x6.size inb_S1024x6_S1024x6_0_0) (boxes gc) Finset.univ (View.stores_vmem_bits_univ h_S1024x6 rfl) (.inl rfl))
  let _ : Vec F S128x1024 .f32 ← Prog.lift (.load arg8 (Rect.unit (s := S1024x1024) ![0, 0] S128x1024.size inb_S1024x1024_S128x1024_0_0).toLoadRect (View.loadsAt_vmem h_S128x1024))
  Prog.lift (.store arg8 (Rect.unit (s := S1024x1024) ![0, 0] S128x1024.size inb_S1024x1024_S128x1024_0_0) (tile gc gr 0) Finset.univ (View.stores_vmem_bits_univ h_S128x1024 rfl) (.inl rfl))
  let _ : Vec F S128x1024 .f32 ← Prog.lift (.load arg8 (Rect.unit (s := S1024x1024) ![128, 0] S128x1024.size inb_S1024x1024_S128x1024_128_0).toLoadRect (View.loadsAt_vmem h_S128x1024))
  Prog.lift (.store arg8 (Rect.unit (s := S1024x1024) ![128, 0] S128x1024.size inb_S1024x1024_S128x1024_128_0) (tile gc gr 1) Finset.univ (View.stores_vmem_bits_univ h_S128x1024 rfl) (.inl rfl))
  let _ : Vec F S128x1024 .f32 ← Prog.lift (.load arg8 (Rect.unit (s := S1024x1024) ![256, 0] S128x1024.size inb_S1024x1024_S128x1024_256_0).toLoadRect (View.loadsAt_vmem h_S128x1024))
  Prog.lift (.store arg8 (Rect.unit (s := S1024x1024) ![256, 0] S128x1024.size inb_S1024x1024_S128x1024_256_0) (tile gc gr 2) Finset.univ (View.stores_vmem_bits_univ h_S128x1024 rfl) (.inl rfl))
  let _ : Vec F S128x1024 .f32 ← Prog.lift (.load arg8 (Rect.unit (s := S1024x1024) ![384, 0] S128x1024.size inb_S1024x1024_S128x1024_384_0).toLoadRect (View.loadsAt_vmem h_S128x1024))
  Prog.lift (.store arg8 (Rect.unit (s := S1024x1024) ![384, 0] S128x1024.size inb_S1024x1024_S128x1024_384_0) (tile gc gr 3) Finset.univ (View.stores_vmem_bits_univ h_S128x1024 rfl) (.inl rfl))
  let _ : Vec F S128x1024 .f32 ← Prog.lift (.load arg8 (Rect.unit (s := S1024x1024) ![512, 0] S128x1024.size inb_S1024x1024_S128x1024_512_0).toLoadRect (View.loadsAt_vmem h_S128x1024))
  Prog.lift (.store arg8 (Rect.unit (s := S1024x1024) ![512, 0] S128x1024.size inb_S1024x1024_S128x1024_512_0) (tile gc gr 4) Finset.univ (View.stores_vmem_bits_univ h_S128x1024 rfl) (.inl rfl))
  let _ : Vec F S128x1024 .f32 ← Prog.lift (.load arg8 (Rect.unit (s := S1024x1024) ![640, 0] S128x1024.size inb_S1024x1024_S128x1024_640_0).toLoadRect (View.loadsAt_vmem h_S128x1024))
  Prog.lift (.store arg8 (Rect.unit (s := S1024x1024) ![640, 0] S128x1024.size inb_S1024x1024_S128x1024_640_0) (tile gc gr 5) Finset.univ (View.stores_vmem_bits_univ h_S128x1024 rfl) (.inl rfl))
  let _ : Vec F S128x1024 .f32 ← Prog.lift (.load arg8 (Rect.unit (s := S1024x1024) ![768, 0] S128x1024.size inb_S1024x1024_S128x1024_768_0).toLoadRect (View.loadsAt_vmem h_S128x1024))
  Prog.lift (.store arg8 (Rect.unit (s := S1024x1024) ![768, 0] S128x1024.size inb_S1024x1024_S128x1024_768_0) (tile gc gr 6) Finset.univ (View.stores_vmem_bits_univ h_S128x1024 rfl) (.inl rfl))
  let _ : Vec F S128x1024 .f32 ← Prog.lift (.load arg8 (Rect.unit (s := S1024x1024) ![896, 0] S128x1024.size inb_S1024x1024_S128x1024_896_0).toLoadRect (View.loadsAt_vmem h_S128x1024))
  Prog.lift (.store arg8 (Rect.unit (s := S1024x1024) ![896, 0] S128x1024.size inb_S1024x1024_S128x1024_896_0) (tile gc gr 7) Finset.univ (View.stores_vmem_bits_univ h_S128x1024 rfl) (.inl rfl))
  let keep : FVec F S1x1024 .f32 ← Scf.Loop.for k1_t1_loop k1_t1_ok (k1_pay2 (F := F)) (k1_t1_body arg0 harg0 arg1 harg1 arg2 harg2 arg3 harg3 arg4 harg4 arg5 harg5 arg6 harg6 arg7 harg7 arg8 harg8)
  let z : Vec F S1x1024 .f32 ← Prog.lift (.load arg2 (Rect.unit (s := S1x1024) ![0, 0] S1x1024.size inb_S1x1024_S1x1024_0_0).toLoadRect (View.loadsAt_vmem h_S1x1024))
  let _ : Vec F S1x1024 .f32 ← Prog.lift (.load arg6 (Rect.unit (s := S1x1024) ![0, 0] S1x1024.size inb_S1x1024_S1x1024_0_0).toLoadRect (View.loadsAt_vmem h_S1x1024))
  Prog.lift (.store arg6 (Rect.unit (s := S1x1024) ![0, 0] S1x1024.size inb_S1x1024_S1x1024_0_0) (k1_pay4 keep z) Finset.univ (View.stores_vmem_bits_univ h_S1x1024 rfl) (.inl rfl))
  let _ : Vec F S1x1024 .f32 ← Prog.lift (.load arg7 (Rect.unit (s := S1x1024) ![0, 0] S1x1024.size inb_S1x1024_S1x1024_0_0).toLoadRect (View.loadsAt_vmem h_S1x1024))
  Prog.lift (.store arg7 (Rect.unit (s := S1x1024) ![0, 0] S1x1024.size inb_S1x1024_S1x1024_0_0) (k1_pay5 gr) Finset.univ (View.stores_vmem_bits_univ h_S1x1024 rfl) (.inl rfl))
  pure ⟨⟩

/-- The printed body is that program. -/
theorem nms_eq (arg0 : Memref sig .tc .vmem S1024x1 .i32) (harg0 : arg0.IsWhole) (arg1 : Memref sig .tc .vmem S1x1024 .i32) (harg1 : arg1.IsWhole) (arg2 : Memref sig .tc .vmem S1x1024 .f32) (harg2 : arg2.IsWhole) (arg3 : Memref sig .tc .vmem S20480x16 .f32) (harg3 : arg3.IsWhole) (arg4 : Memref sig .tc .vmem S16x20480 .f32) (harg4 : arg4.IsWhole) (arg5 : Memref sig .tc .vmem S1024x6 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) :
    cc1__nms_kernel (F := F) arg0 harg0 arg1 harg1 arg2 harg2 arg3 harg3 arg4 harg4 arg5 harg5 arg6 harg6 arg7 harg7 arg8 harg8
      = nmsProg arg0 harg0 arg1 harg1 arg2 harg2 arg3 harg3 arg4 harg4 arg5 harg5 arg6 harg6 arg7 harg7 arg8 harg8 := by
  sl_kernel_rfl

end Cert.Proof
end
-- ==== Proof.Bodies.lean ====
/- The two kernel bodies run on whole staging buffers: what each leaves in its outputs as a function of its inputs. -/
module

public import proofs.«01_k».proof.Proof.Net
public import proofs.«01_k».proof.Proof.Nms
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.FrameBody
public import Idealize.ShloMosaic.Lib.VecWindow
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The first call's body: the outputs at the network's first 1024 indices and values and at the labels. -/
theorem run0 (c : Dev nD) (E : Set ℕ) (arg0 : Memref sig .tc .vmem S157x128x18 .f32) (harg0 : arg0.IsWhole) (arg1 : Memref sig .tc .vmem S157x128 .f32) (harg1 : arg1.IsWhole) (arg2 : Memref sig .tc .vmem S8x128 .i32) (harg2 : arg2.IsWhole) (arg3 : Memref sig .tc .vmem S8x128 .f32) (harg3 : arg3.IsWhole) (arg4 : Memref sig .tc .vmem S157x128 .f32) (harg4 : arg4.IsWhole)
    (x0 : Vec F S157x128x18 .f32) (x1 : Vec F S157x128 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (topIdx x0 x1) ∗ owns (c : Thread nD τ) arg3 fullShare (topVal x0 x1) ∗ owns (c : Thread nD τ) arg4 fullShare (k0_pay13 x0 x1)) -∗ K ⟨⟩))
      ⊢ wp frame (wpE (defs₀ (F := F)) Variants.none c none) E (cc0__topk_kernel arg0 harg0 arg1 harg1 arg2 harg2 arg3 harg3 arg4 harg4) K := by
  rw [topk_eq]; unfold topProg
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_full, View.readAt_full, View.readAt_full]
  isplitl [H3]
  · iexists _; isplitr
    swap; · iexact H3
    ipureintro
    rw [View.read_writes_full, View.readAt_full, View.readAt_full]
  iexists _; isplitr
  swap; · iexact H4
  ipureintro
  rw [View.read_writes_full, View.readAt_full, View.readAt_full]

/-- The payload's chunks, by rows and transposed. -/
def colChunks (x : Vec F S20480x16 .f32) : List (ℕ × Vec F S2048x16 .f32) :=
  [(0, View.ld x (Rect.unit (s := S20480x16) ![0, 0] S2048x16.size inb_S20480x16_S2048x16_0_0)), (2048, View.ld x (Rect.unit (s := S20480x16) ![2048, 0] S2048x16.size inb_S20480x16_S2048x16_2048_0)), (4096, View.ld x (Rect.unit (s := S20480x16) ![4096, 0] S2048x16.size inb_S20480x16_S2048x16_4096_0)), (6144, View.ld x (Rect.unit (s := S20480x16) ![6144, 0] S2048x16.size inb_S20480x16_S2048x16_6144_0)), (8192, View.ld x (Rect.unit (s := S20480x16) ![8192, 0] S2048x16.size inb_S20480x16_S2048x16_8192_0)), (10240, View.ld x (Rect.unit (s := S20480x16) ![10240, 0] S2048x16.size inb_S20480x16_S2048x16_10240_0)), (12288, View.ld x (Rect.unit (s := S20480x16) ![12288, 0] S2048x16.size inb_S20480x16_S2048x16_12288_0)), (14336, View.ld x (Rect.unit (s := S20480x16) ![14336, 0] S2048x16.size inb_S20480x16_S2048x16_14336_0)), (16384, View.ld x (Rect.unit (s := S20480x16) ![16384, 0] S2048x16.size inb_S20480x16_S2048x16_16384_0)), (18432, View.ld x (Rect.unit (s := S20480x16) ![18432, 0] S2048x16.size inb_S20480x16_S2048x16_18432_0))]
def rowChunks (x : Vec F S16x20480 .f32) : List (ℕ × Vec F S16x2048 .f32) :=
  [(0, View.ld x (Rect.unit (s := S16x20480) ![0, 0] S16x2048.size inb_S16x20480_S16x2048_0_0)), (2048, View.ld x (Rect.unit (s := S16x20480) ![0, 2048] S16x2048.size inb_S16x20480_S16x2048_0_2048)), (4096, View.ld x (Rect.unit (s := S16x20480) ![0, 4096] S16x2048.size inb_S16x20480_S16x2048_0_4096)), (6144, View.ld x (Rect.unit (s := S16x20480) ![0, 6144] S16x2048.size inb_S16x20480_S16x2048_0_6144)), (8192, View.ld x (Rect.unit (s := S16x20480) ![0, 8192] S16x2048.size inb_S16x20480_S16x2048_0_8192)), (10240, View.ld x (Rect.unit (s := S16x20480) ![0, 10240] S16x2048.size inb_S16x20480_S16x2048_0_10240)), (12288, View.ld x (Rect.unit (s := S16x20480) ![0, 12288] S16x2048.size inb_S16x20480_S16x2048_0_12288)), (14336, View.ld x (Rect.unit (s := S16x20480) ![0, 14336] S16x2048.size inb_S16x20480_S16x2048_0_14336)), (16384, View.ld x (Rect.unit (s := S16x20480) ![0, 16384] S16x2048.size inb_S16x20480_S16x2048_0_16384)), (18432, View.ld x (Rect.unit (s := S16x20480) ![0, 18432] S16x2048.size inb_S16x20480_S16x2048_0_18432))]

/-- The mask's eight row tiles, the last stored first. -/
def maskPieces (gc : FVec F S1024x16 .f32) (gr : FVec F S16x1024 .f32) : List (View.Piece (Elt F) S1024x1024 .f32) :=
  [⟨Rect.unit (s := S1024x1024) ![896, 0] S128x1024.size inb_S1024x1024_S128x1024_896_0, tile gc gr 7⟩, ⟨Rect.unit (s := S1024x1024) ![768, 0] S128x1024.size inb_S1024x1024_S128x1024_768_0, tile gc gr 6⟩, ⟨Rect.unit (s := S1024x1024) ![640, 0] S128x1024.size inb_S1024x1024_S128x1024_640_0, tile gc gr 5⟩, ⟨Rect.unit (s := S1024x1024) ![512, 0] S128x1024.size inb_S1024x1024_S128x1024_512_0, tile gc gr 4⟩, ⟨Rect.unit (s := S1024x1024) ![384, 0] S128x1024.size inb_S1024x1024_S128x1024_384_0, tile gc gr 3⟩, ⟨Rect.unit (s := S1024x1024) ![256, 0] S128x1024.size inb_S1024x1024_S128x1024_256_0, tile gc gr 2⟩, ⟨Rect.unit (s := S1024x1024) ![128, 0] S128x1024.size inb_S1024x1024_S128x1024_128_0, tile gc gr 1⟩, ⟨Rect.unit (s := S1024x1024) ![0, 0] S128x1024.size inb_S1024x1024_S128x1024_0_0, tile gc gr 0⟩]
def mask (gc : FVec F S1024x16 .f32) (gr : FVec F S16x1024 .f32) : Vec F S1024x1024 .f32 := View.canon (maskPieces gc gr)

theorem maskPieces_cover (gc : FVec F S1024x16 .f32) (gr : FVec F S16x1024 .f32) (y : S1024x1024.Idx) :
    ∃ pc ∈ maskPieces gc gr, y ∈ pc.1.set :=
  View.cover_of_tiled (maskPieces gc gr) S128x1024.size (by rfl) y

/-- The keep vector before trip `k` of the suppression loop. -/
def keepAt (M : Vec F S1024x1024 .f32) : ℕ → FVec F S1x1024 .f32
  | 0 => k1_pay2
  | k + 1 => if h : k < k1_t1_loop.trips then k1_pay3 ⟨k, h⟩ (keepAt M k) (View.ld M (Rect.unit (s := S1024x1024) (k1_off1 ⟨k, h⟩) S1x1024.size (k1_off1_inb ⟨k, h⟩))) else keepAt M k

/-- A trip's result is the suppression step at the mask's row. -/
theorem trip_eq (c : Dev nD) (arg0 : Memref sig .tc .vmem S1024x1 .i32) (harg0 : arg0.IsWhole) (arg1 : Memref sig .tc .vmem S1x1024 .i32) (harg1 : arg1.IsWhole) (arg2 : Memref sig .tc .vmem S1x1024 .f32) (harg2 : arg2.IsWhole) (arg3 : Memref sig .tc .vmem S20480x16 .f32) (harg3 : arg3.IsWhole) (arg4 : Memref sig .tc .vmem S16x20480 .f32) (harg4 : arg4.IsWhole) (arg5 : Memref sig .tc .vmem S1024x6 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (X : BufTy.Contents (Elt F) arg8.view.ty) (k : Fin k1_t1_loop.trips) (acc : FVec F S1x1024 .f32) :
    tripR_k1_t1 (F := F) Variants.none c none arg0 harg0 arg1 harg1 arg2 harg2 arg3 harg3 arg4 harg4 arg5 harg5 arg6 harg6 arg7 harg7 arg8 harg8 X k acc
      = k1_pay3 k acc (View.ld (arg8.view.read (Elt F) X) (Rect.unit (s := S1024x1024) (k1_off1 k) S1x1024.size (k1_off1_inb k))) := by
  sl_kernel_rfl

/-- What the loop carries is the keep vector. -/
theorem loop_eq (c : Dev nD) (arg0 : Memref sig .tc .vmem S1024x1 .i32) (harg0 : arg0.IsWhole) (arg1 : Memref sig .tc .vmem S1x1024 .i32) (harg1 : arg1.IsWhole) (arg2 : Memref sig .tc .vmem S1x1024 .f32) (harg2 : arg2.IsWhole) (arg3 : Memref sig .tc .vmem S20480x16 .f32) (harg3 : arg3.IsWhole) (arg4 : Memref sig .tc .vmem S16x20480 .f32) (harg4 : arg4.IsWhole) (arg5 : Memref sig .tc .vmem S1024x6 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (X : BufTy.Contents (Elt F) arg8.view.ty) (k : ℕ) (hk : k ≤ k1_t1_loop.trips) :
    st_k1_t1 (F := F) Variants.none c none arg0 harg0 arg1 harg1 arg2 harg2 arg3 harg3 arg4 harg4 arg5 harg5 arg6 harg6 arg7 harg7 arg8 harg8 X k1_pay2 k = keepAt (arg8.view.read (Elt F) X) k := by
  induction k with
  | zero => rfl
  | succ k ih =>
    have hk' : k < k1_t1_loop.trips := hk
    rw [keepAt, dif_pos hk', ← ih (Nat.le_of_succ_le hk)]
    exact (st_k1_t1_succ (F := F) Variants.none c none arg0 harg0 arg1 harg1 arg2 harg2 arg3 harg3 arg4 harg4 arg5 harg5 arg6 harg6 arg7 harg7 arg8 harg8 X k1_pay2 ⟨k, hk⟩).trans (trip_eq c arg0 harg0 arg1 harg1 arg2 harg2 arg3 harg3 arg4 harg4 arg5 harg5 arg6 harg6 arg7 harg7 arg8 harg8 X ⟨k, hk⟩ _)

/-- What the second call leaves in its outputs. -/
def outBoxes (x0 : Vec F S1024x1 .i32) (x3 : Vec F S20480x16 .f32) : Vec F S1024x6 .f32 := boxes (gatherCol x0 (colChunks x3))
def outScores (x0 : Vec F S1024x1 .i32) (x1 : Vec F S1x1024 .i32) (x2 : Vec F S1x1024 .f32) (x3 : Vec F S20480x16 .f32) (x4 : Vec F S16x20480 .f32) : Vec F S1x1024 .f32 :=
  k1_pay4 (keepAt (mask (gatherCol x0 (colChunks x3)) (gatherRow x1 (rowChunks x4))) k1_t1_loop.trips) x2
def outLabels (x1 : Vec F S1x1024 .i32) (x4 : Vec F S16x20480 .f32) : Vec F S1x1024 .f32 := k1_pay5 (gatherRow x1 (rowChunks x4))

set_option maxHeartbeats 4000000 in
/-- The second call's body. -/
theorem run1 (c : Dev nD) (E : Set ℕ) (arg0 : Memref sig .tc .vmem S1024x1 .i32) (harg0 : arg0.IsWhole) (arg1 : Memref sig .tc .vmem S1x1024 .i32) (harg1 : arg1.IsWhole) (arg2 : Memref sig .tc .vmem S1x1024 .f32) (harg2 : arg2.IsWhole) (arg3 : Memref sig .tc .vmem S20480x16 .f32) (harg3 : arg3.IsWhole) (arg4 : Memref sig .tc .vmem S16x20480 .f32) (harg4 : arg4.IsWhole) (arg5 : Memref sig .tc .vmem S1024x6 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole)
    (x0 : Vec F S1024x1 .i32) (x1 : Vec F S1x1024 .i32) (x2 : Vec F S1x1024 .f32) (x3 : Vec F S20480x16 .f32) (x4 : Vec F S16x20480 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
          ∗ owns (c : Thread nD τ) arg5 fullShare (outBoxes x0 x3) ∗ owns (c : Thread nD τ) arg6 fullShare (outScores x0 x1 x2 x3 x4) ∗ owns (c : Thread nD τ) arg7 fullShare (outLabels x1 x4) ∗ (∃ d, owns (c : Thread nD τ) arg8 fullShare d)) -∗ K ⟨⟩))
      ⊢ wp frame (wpE (defs₀ (F := F)) Variants.none c none) E (cc1__nms_kernel arg0 harg0 arg1 harg1 arg2 harg2 arg3 harg3 arg4 harg4 arg5 harg5 arg6 harg6 arg7 harg7 arg8 harg8) K := by
  rw [nms_eq]; unfold nmsProg
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold run1.sl.H5_1 run1.sl.gc
    rw [View.read_writes_full, View.readAt_full]
    rfl
  isplitl [H6]
  · iexists _; isplitr
    swap; · iexact H6
    ipureintro
    rw [View.read_writes_full, loop_eq _ _ _ _ _ _ _ _ _ _ _ _ _ _ _ _ _ _ _ _ _ le_rfl]
    unfold run1.sl.H8_8 run1.sl.gc run1.sl.gr
    rw [View.readAt_full arg0.view, View.readAt_full arg1.view, View.readAt_full arg2.view]
    exact congrArg (fun M => k1_pay4 (keepAt M k1_t1_loop.trips) (arg2.view.read (Elt F) f2)) (View.read_writes_eq_canon _ _ (maskPieces _ _) (maskPieces_cover _ _))
  isplitl [H7]
  · iexists _; isplitr
    swap; · iexact H7
    ipureintro
    unfold run1.sl.gr
    rw [View.read_writes_full, View.readAt_full]
    rfl
  iexists _, _; isplitr; swap; · iexact H8
  ipureintro; rfl

end Cert.Proof
end
-- ==== Proof.Regions.lean ====
/- The two calls as regions: what each window's staging buffer holds before and after the body, and the body's obligation. -/
module

public import proofs.«01_k».proof.Proof.Bodies
public import Idealize.ShloMosaic.Lib.Pipeline.RegionsLoop
public import Idealize.ShloMosaic.Lib.Pipeline.FrameSuffix

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Region 0: a window's block as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the inputs stay, the outputs are the body's. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => topIdx (blk0 V c 0 t) (blk0 V c 1 t)
    | ⟨3, _⟩ => topVal (blk0 V c 0 t) (blk0 V c 1 t)
    | ⟨4, _⟩ => k0_pay13 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = topIdx (blk0 V c 0 t) (blk0 V c 1 t) := by dsimp only [dat0]
theorem after0_3 (c : Dev nD) (t : Fin cfg0.N) : (dat0 V c).after 3 t = topVal (blk0 V c 0 t) (blk0 V c 1 t) := by dsimp only [dat0]
theorem after0_4 (c : Dev nD) (t : Fin cfg0.N) : (dat0 V c).after 4 t = k0_pay13 (blk0 V c 0 t) (blk0 V c 1 t) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [dat0_A]) t d).trans
    (by unfold Dat.fetched Dat.blockOf blk0; rw [dat0_A]; rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [dat0_A]) t d).trans
    (by unfold Dat.fetched Dat.blockOf blk0; rw [dat0_A]; rfl)

/-- What the body is called with and what it returns. -/
def pre0 (c : Dev nD) (t : Fin cfg0.N) : sProp 𝕄 :=
  iprop((dat0 V c).Φ t.castSucc ∗ (dat0 V c).owesAt () t.castSucc ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)))
def post0 (c : Dev nD) (t : Fin cfg0.N) : sProp 𝕄 :=
  iprop((dat0 V c).Φ t.succ ∗ (dat0 V c).owesAt () t.succ ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t))

theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (run0 c Set.univ _ _ _ _ _ _ _ _ _ _ (blk0 V c 0 t) (blk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

/-- Region 1: a window's block as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data: the inputs stay, the outputs are the body's. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outBoxes (blk1 V c 0 t) (blk1 V c 3 t)
    | ⟨6, _⟩ => outScores (blk1 V c 0 t) (blk1 V c 1 t) (blk1 V c 2 t) (blk1 V c 3 t) (blk1 V c 4 t)
    | ⟨7, _⟩ => outLabels (blk1 V c 1 t) (blk1 V c 4 t)
  Φ _ := Pipeline.ΦA spec1 c
  q _ := fullShare
  owed _ := 0

theorem dat1_A (c : Dev nD) (w : Fin cfg1.W) : (dat1 V c).A w = V c (Pipeline.arrRef spec1 w) := by dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = outBoxes (blk1 V c 0 t) (blk1 V c 3 t) := by dsimp only [dat1]
theorem after1_6 (c : Dev nD) (t : Fin cfg1.N) : (dat1 V c).after 6 t = outScores (blk1 V c 0 t) (blk1 V c 1 t) (blk1 V c 2 t) (blk1 V c 3 t) (blk1 V c 4 t) := by dsimp only [dat1]
theorem after1_7 (c : Dev nD) (t : Fin cfg1.N) : (dat1 V c).after 7 t = outLabels (blk1 V c 1 t) (blk1 V c 4 t) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [dat1_A]) t d).trans
    (by unfold Dat.fetched Dat.blockOf blk1; rw [dat1_A]; rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [dat1_A]) t d).trans
    (by unfold Dat.fetched Dat.blockOf blk1; rw [dat1_A]; rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [dat1_A]) t d).trans
    (by unfold Dat.fetched Dat.blockOf blk1; rw [dat1_A]; rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [dat1_A]) t d).trans
    (by unfold Dat.fetched Dat.blockOf blk1; rw [dat1_A]; rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [dat1_A]) t d).trans
    (by unfold Dat.fetched Dat.blockOf blk1; rw [dat1_A]; rfl)

/-- The scoped rest with the scratch as a memref owned at some contents. -/
theorem rest1 (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ d, owns (c : Thread nD τ) (Memref.whole cc1_scratch0 : Memref sig .tc .vmem S1024x1024 .f32) fullShare d)) ∗ (∃ r, prngReg c r)) := by
  unfold Pipeline.ΦA; rw [scopedRest1_eq]; simp only [owns_whole]; try rfl

/-- What the body is called with and what it returns. -/
def pre1 (c : Dev nD) (t : Fin cfg1.N) : sProp 𝕄 :=
  iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)) ∗ (∃ d, owns (c : Thread nD τ) (st1_7 t) fullShare ((dat1 V c).before 7 t d)))
def post1 (c : Dev nD) (t : Fin cfg1.N) : sProp 𝕄 :=
  iprop((dat1 V c).Φ t.succ ∗ (dat1 V c).owesAt () t.succ ∗ owns (c : Thread nD τ) (st1_0 t) fullShare ((dat1 V c).after 0 t) ∗ owns (c : Thread nD τ) (st1_1 t) fullShare ((dat1 V c).after 1 t) ∗ owns (c : Thread nD τ) (st1_2 t) fullShare ((dat1 V c).after 2 t) ∗ owns (c : Thread nD τ) (st1_3 t) fullShare ((dat1 V c).after 3 t) ∗ owns (c : Thread nD τ) (st1_4 t) fullShare ((dat1 V c).after 4 t) ∗ owns (c : Thread nD τ) (st1_5 t) fullShare ((dat1 V c).after 5 t) ∗ owns (c : Thread nD τ) (st1_6 t) fullShare ((dat1 V c).after 6 t) ∗ owns (c : Thread nD τ) (st1_7 t) fullShare ((dat1 V c).after 7 t))

theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  rw [show (dat1 V c).Φ t.castSucc = Pipeline.ΦA spec1 c from rfl, rest1]
  iintro ⟨⟨⟨HR0, HR1, HR2, HR3, HR4, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1 c Set.univ _ _ _ _ _ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS]; · iexact HS
  iintro ⟨H0, H1, H2, H3, H4, H5, H6, H7, HS⟩
  isplitl [HR0 HR1 HR2 HR3 HR4 HS Hg]
  · isplitl [HR0 HR1 HR2 HR3 HR4 HS]
    · isplitl [HR0]; · iexact HR0
      isplitl [HR1]; · iexact HR1
      isplitl [HR2]; · iexact HR2
      isplitl [HR3]; · iexact HR3
      isplitl [HR4]; · iexact HR4
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Regions

end Cert.Proof
end
-- ==== Proof.Run.lean ====
/- The run of the whole program: the stretches of host operations and the two regions in order, every buffer's final
   contents, and the frame. The set-up follows the library's for a program of two regions. -/
module

public import proofs.«01_k».proof.Proof.Regions
public import Idealize.ShloMosaic.Lib.Ring

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3]

/-- What stretch 0 writes. -/
abbrev written0 : List (Ref sig .tc) := [main_call0_c, main_call0_call0_v0, main_call0_v0, main_call0_v1, main_call0_v2, main_call0_c_0, main_call0_call1_v0, main_call0_v3, main_call0_v4]
theorem fresh0 : (hostOps0 : List (HloOp τ sig (Elt F))).Forall fun op => op.fresh = ∅ := by
  simp only [List.Forall]; repeat' constructor
theorem writes0 : (hostOps0 : List (HloOp τ sig (Elt F))).Forall fun op => op.writes ⊆ (written0.map (Proc.devRef (τ := τ) .tc)).toFinset :=
  StableHlo.forall_writes_sub_of_map rfl
theorem args_written0 : ∀ a ∈ argRefs, a ∉ written0 := ListAll.forall_mem_of_all_decide (by decide +kernel)

/-- What stretch 1 writes. -/
abbrev written1 : List (Ref sig .tc) := [main_call0_v6, main_call0_v7, main_call0_v8, main_call0_cst, main_call0_v9, main_call0_v10, main_call0_c_1, main_call0_call2_v0, main_call0_v11, main_call0_v12, main_call0_v13, main_call0_v14, main_call0_v15, main_call0_v16, main_call0_v17]
theorem fresh1 : (hostOps1 : List (HloOp τ sig (Elt F))).Forall fun op => op.fresh = ∅ := by
  simp only [List.Forall]; repeat' constructor
theorem writes1 : (hostOps1 : List (HloOp τ sig (Elt F))).Forall fun op => op.writes ⊆ (written1.map (Proc.devRef (τ := τ) .tc)).toFinset :=
  StableHlo.forall_writes_sub_of_map rfl
theorem args_written1 : ∀ a ∈ argRefs, a ∉ written1 := ListAll.forall_mem_of_all_decide (by decide +kernel)

/-- What stretch 2 writes. -/
abbrev written2 : List (Ref sig .tc) := [main_v0_0, main_call0_v20, main_v0_1, main_call0_v22, main_call0_v23, main_v0_2]
theorem fresh2 : (hostOps2 : List (HloOp τ sig (Elt F))).Forall fun op => op.fresh = ∅ := by
  simp only [List.Forall]; repeat' constructor
theorem writes2 : (hostOps2 : List (HloOp τ sig (Elt F))).Forall fun op => op.writes ⊆ (written2.map (Proc.devRef (τ := τ) .tc)).toFinset :=
  StableHlo.forall_writes_sub_of_map rfl
theorem args_written2 : ∀ a ∈ argRefs, a ∉ written2 := ListAll.forall_mem_of_all_decide (by decide +kernel)

/-- The buffers at launch, and at each boundary. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)

/-- Region 0 changes its output arrays only. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (dat0_A (V1 m ρ) c w))
  · exact W2_of_ne m ρ c r fun w e => hw ⟨w, e⟩
theorem args_in0 : ∀ a ∈ argRefs, ∀ w : Fin cfg0.W, Pipeline.arrRef spec0 w = a → (cfg0.win w).isOut = false :=
  ListAll.forall_mem_of_all_decide (by decide +kernel)
theorem exit_arr0 (c : Dev nD) (w : Fin cfg0.W) : (dat0 (V1 m ρ) c).arrAt w cfg0.N = V2 m ρ c (Pipeline.arrRef spec0 w) :=
  (W2_arr m ρ c w).symm
theorem exit_rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Region 1 changes its output arrays only. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (dat1_A (V3 m ρ) c w))
  · exact W4_of_ne m ρ c r fun w e => hw ⟨w, e⟩
theorem args_in1 : ∀ a ∈ argRefs, ∀ w : Fin cfg1.W, Pipeline.arrRef spec1 w = a → (cfg1.win w).isOut = false :=
  ListAll.forall_mem_of_all_decide (by decide +kernel)
theorem exit_arr1 (c : Dev nD) (w : Fin cfg1.W) : (dat1 (V3 m ρ) c).arrAt w cfg1.N = V4 m ρ c (Pipeline.arrRef spec1 w) :=
  (W4_arr m ρ c w).symm
theorem exit_rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The arguments end as launched. -/
theorem W5_args (c : Dev nD) (a : Ref sig .tc) (ha : a ∈ argRefs) : W5 m ρ c (Proc.devRef .tc a) = m ((c : Thread nD τ).loc a) :=
  (StableHlo.after_of_writes_sub hostOps2 _ writes2 (args_written2 a ha)).trans <|
    (W4_of m ρ c a (args_in1 a ha)).trans <| (StableHlo.after_of_writes_sub hostOps1 _ writes1 (args_written1 a ha)).trans <|
      (W2_of m ρ c a (args_in0 a ha)).trans (StableHlo.after_of_writes_sub hostOps0 _ writes0 (args_written0 a ha))

abbrev adm : (p : Fin 2) → (pcfgs (F := F) p).Adm := fun p => (cfgs p).toPCfg_adm
/-- Each pipeline's proof data at its region's entry. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev L : GSem nD τ sig → Finset Unit := fun _ => ∅
abbrev lv : GSem nD τ sig → Unit → ℕ := fun _ _ => 0
/-- What rides beside the buffers. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 over the buffers' contents. -/
def reg0 : Pipeline.RegionSeg (pcfgs (F := F)) adm (pdats m ρ) () defs₀ Variants.none L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (dat0_A (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit_arr0 m ρ c) (exit_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the buffers' contents. -/
def reg1 : Pipeline.RegionSeg (pcfgs (F := F)) adm (pdats m ρ) () defs₀ Variants.none L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (dat1_A (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit_arr1 m ρ c) (exit_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ Variants.none L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- THE RUN: it ends with every buffer at its final contents and every counter at zero. -/
theorem run_all : θ_run defs (onTc (τ := τ) (main (F := F))) ⟨m, fun _ => 0, ρ⟩ (fun r => (∀ c : Dev nD, ∀ b ∈ Pipeline.ucRefs τ sig, r.2.mem (c, b) = W5 m ρ c b) ∧ r.2.sem = fun _ => 0) :=
  Pipeline.θ_run_regions_kit_sems (pcfgs (F := F)) adm (pdats m ρ) () cellOf_inj emb₁ defs₀ Variants.none L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c b hb, funext fun g => hz g (.inr (no_unscoped g.2))⟩)

/-- The frame: the arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (W5_args m ρ c main_arg0 (by decide)),
     (h.1 c _ (mem_uc main_arg1 (by decide))).trans (W5_args m ρ c main_arg1 (by decide)),
     (h.1 c _ (mem_uc main_arg2 (by decide))).trans (W5_args m ρ c main_arg2 (by decide)),
     (h.1 c _ (mem_uc main_arg3 (by decide))).trans (W5_args m ρ c main_arg3 (by decide))⟩, h.2⟩) (run_all m ρ)

end Cert.Proof
end
-- ==== Proof.KernelFrame.lean ====
/-
The printed kernel and its ideal reading are one program text, so the frame of the one is the frame of the other.
-/
module

public import proofs.«01_k».proof.Proof.Run
public import proofs.«01_k».proof.Proof.Gen.Kernel

@[expose] public section

set_option maxRecDepth 65536

noncomputable section

namespace Cert.Proof

open Idealize.ShloMosaic Idealize.ShloMosaic.TcCoe Idealize.SL.Sem
variable {F : FTy → Type} [FloatOps F]

theorem kernel_frame (m : (ℓ : Loc Cert.Kernel.nD Cert.Kernel.τ Cert.Kernel.sig) → Buf (Elt F) ℓ) (ρ : Dev Cert.Kernel.nD → PrngReg) :
    θ_run (@Cert.Kernel.defs F _ Cert.Kernel.Gen.facts) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  (show (θ_run (Cert.KernelIdeal.defs (F := F)) (onTc (τ := Cert.KernelIdeal.τ) (Cert.KernelIdeal.main (F := F))) ⟨m, fun _ => 0, ρ⟩ _) = θ_run (@Cert.Kernel.defs F _ Cert.Kernel.Gen.facts) (onTc (τ := Cert.Kernel.τ) (Cert.Kernel.main (F := F))) ⟨m, fun _ => 0, ρ⟩ _ from by sl_kernel_rfl).mp (Cert.Proof.frame (F := F) m ρ)

end Cert.Proof

end
-- ==== Proof.KernelOut.lean ====
/- What the program's result arrays hold at the end, as the two bodies' functions of the argument arrays. -/
module

public import proofs.«01_k».proof.Proof.Run
public import Idealize.ShloMosaic.Lib.StableHlo.RunRead
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe
open Idealize.ShloMosaic.Pipeline (Dat Cfg Window)

variable {F : FTy → Type} [FloatOps F]

variable (m : (ℓ : Loc nD τ sig) → Buf (Elt F) ℓ) (ρ : Dev nD → PrngReg)

/-- The scores' operands as the first call takes them. -/
def clsIn (a2 : FVec F S20000x18 .f32) : FVec F S157x128x18 .f32 :=
  shapeCast S157x128x18 (pad S20096x18 ![0, 0] ![96, 0] ![0, 0] a2 (sitofp .f32 (constantI S_ 32 0#32)) pads_S20000x18_S20096x18_0960_000 h_S_) shapeCasts_S20096x18_S157x128x18
def ctrIn (a0 : FVec F S20000x1 .f32) : FVec F S157x128 .f32 :=
  shapeCast S157x128 (pad S20096 ![0] ![96] ![0] (shapeCast S20000 a0 shapeCasts_S20000x1_S20000) (sitofp .f32 (constantI S_ 32 0#32)) pads_S20000_S20096_0960 h_S_) shapeCasts_S20096_S157x128

theorem W1_cls (c : Dev nD) : W1 m ρ c (Proc.devRef .tc main_call0_v1) = clsIn (m ((c : Thread nD τ).loc main_arg2)) := by
  unfold W1 clsIn
  after_reads_simp
  rfl
theorem W1_ctr (c : Dev nD) : W1 m ρ c (Proc.devRef .tc main_call0_v4) = ctrIn (m ((c : Thread nD τ).loc main_arg0)) := by
  unfold W1 ctrIn
  after_reads_simp
  rfl

/-- A window over a whole array at the one grid point reads the array. -/
theorem blk0_cls (c : Dev nD) : blk0 (V1 m ρ) c 0 t0_0 = clsIn (m ((c : Thread nD τ).loc main_arg2)) := by
  funext j
  refine Eq.trans ?_ (congrFun (W1_cls m ρ c) j)
  have h : ∀ a, win0_0.index t0_0 a = 0 := by decide +kernel
  unfold blk0
  blk_ext [h]
theorem blk0_ctr (c : Dev nD) : blk0 (V1 m ρ) c 1 t0_0 = ctrIn (m ((c : Thread nD τ).loc main_arg0)) := by
  funext j
  refine Eq.trans ?_ (congrFun (W1_ctr m ρ c) j)
  have h : ∀ a, win0_1.index t0_0 a = 0 := by decide +kernel
  unfold blk0
  blk_ext [h]

/-- What the first call leaves. -/
def selIdx (a0 : FVec F S20000x1 .f32) (a2 : FVec F S20000x18 .f32) : IVec S8x128 32 := topIdx (clsIn a2) (ctrIn a0)
def selVal (a0 : FVec F S20000x1 .f32) (a2 : FVec F S20000x18 .f32) : FVec F S8x128 .f32 := topVal (clsIn a2) (ctrIn a0)
def selLab (a0 : FVec F S20000x1 .f32) (a2 : FVec F S20000x18 .f32) : FVec F S157x128 .f32 := k0_pay13 (clsIn a2) (ctrIn a0)

theorem W2_idx (c : Dev nD) : W2 m ρ c (Proc.devRef .tc main_call0_v5_0) = selIdx (m ((c : Thread nD τ).loc main_arg0)) (m ((c : Thread nD τ).loc main_arg2)) := by
  refine (W2_arr m ρ c 2).trans ?_
  refine (dat0 (V1 m ρ) c).arrAt_eq_of_after_last 2 t0_0 (by decide +kernel) _ fun j => ?_
  rw [after0_2, blk0_cls, blk0_ctr]
  blk_simp
  rfl
theorem W2_val (c : Dev nD) : W2 m ρ c (Proc.devRef .tc main_call0_v5_1) = selVal (m ((c : Thread nD τ).loc main_arg0)) (m ((c : Thread nD τ).loc main_arg2)) := by
  refine (W2_arr m ρ c 3).trans ?_
  refine (dat0 (V1 m ρ) c).arrAt_eq_of_after_last 3 t0_0 (by decide +kernel) _ fun j => ?_
  rw [after0_3, blk0_cls, blk0_ctr]
  blk_simp
  rfl
theorem W2_lab (c : Dev nD) : W2 m ρ c (Proc.devRef .tc main_call0_v5_2) = selLab (m ((c : Thread nD τ).loc main_arg0)) (m ((c : Thread nD τ).loc main_arg2)) := by
  refine (W2_arr m ρ c 4).trans ?_
  refine (dat0 (V1 m ρ) c).arrAt_eq_of_after_last 4 t0_0 (by decide +kernel) _ fun j => ?_
  rw [after0_4, blk0_cls, blk0_ctr]
  blk_simp
  rfl
theorem W2_arg (c : Dev nD) (a : Ref sig .tc) (ha : a ∈ argRefs) : W2 m ρ c (Proc.devRef .tc a) = m ((c : Thread nD τ).loc a) :=
  (W2_of m ρ c a (args_in0 a ha)).trans (StableHlo.after_of_writes_sub hostOps0 _ writes0 (args_written0 a ha))

/-- The payload table: distances, points, label, zeros; padded below. -/
def table (a1 : FVec F S20000x6 .f32) (a3 : FVec F S20000x3 .f32) (lab : FVec F S157x128 .f32) : FVec F S20480x16 .f32 :=
  pad S20480x16 ![0, 0] ![480, 0] ![0, 0]
    (concatenate S20000x16 1 [⟨S20000x6, a1⟩, ⟨S20000x3, a3⟩,
      ⟨S20000x1, broadcastInDim S20000x1 ![0] bcast_S20000_S20000x1_0 (extractStridedSlice S20000 ![0] (shapeCast S20096 lab shapeCasts_S157x128_S20096) slices_S20096_S20000_0)⟩,
      ⟨S20000x6, broadcastInDim S20000x6 ![] bcast_S_S20000x6 (constant S_ .f32 0x00000000#32)⟩] concatenates_S20000x6_S20000x3_S20000x1_S20000x6_S20000x16_d1)
    (sitofp .f32 (constantI S_ 32 0#32)) pads_S20000x16_S20480x16_04800_000 h_S_
def tableT (a1 : FVec F S20000x6 .f32) (a3 : FVec F S20000x3 .f32) (lab : FVec F S157x128 .f32) : FVec F S16x20480 .f32 :=
  transpose S16x20480 [1, 0] (table a1 a3 lab) transposes_S20480x16_S16x20480_1_0
def idxCol (i : IVec S8x128 32) : IVec S1024x1 32 := broadcastInDim S1024x1 ![0] bcast_S1024_S1024x1_0 (shapeCast S1024 i shapeCasts_S8x128_S1024)
def idxRow (i : IVec S8x128 32) : IVec S1x1024 32 := broadcastInDim S1x1024 ![1] bcast_S1024_S1x1024_1 (shapeCast S1024 i shapeCasts_S8x128_S1024)
def valRow (v : FVec F S8x128 .f32) : FVec F S1x1024 .f32 := broadcastInDim S1x1024 ![1] bcast_S1024_S1x1024_1 (shapeCast S1024 v shapeCasts_S8x128_S1024)

theorem W3_idxCol (c : Dev nD) : W3 m ρ c (Proc.devRef .tc main_call0_v15) = idxCol (selIdx (m ((c : Thread nD τ).loc main_arg0)) (m ((c : Thread nD τ).loc main_arg2))) := by
  rw [← W2_idx m ρ c]
  unfold W3 idxCol
  after_reads_simp
  rfl
theorem W3_idxRow (c : Dev nD) : W3 m ρ c (Proc.devRef .tc main_call0_v16) = idxRow (selIdx (m ((c : Thread nD τ).loc main_arg0)) (m ((c : Thread nD τ).loc main_arg2))) := by
  rw [← W2_idx m ρ c]
  unfold W3 idxRow
  after_reads_simp
  rfl
theorem W3_valRow (c : Dev nD) : W3 m ρ c (Proc.devRef .tc main_call0_v17) = valRow (selVal (m ((c : Thread nD τ).loc main_arg0)) (m ((c : Thread nD τ).loc main_arg2))) := by
  rw [← W2_val m ρ c]
  unfold W3 valRow
  after_reads_simp
  rfl
set_option maxHeartbeats 4000000 in
theorem W3_table (c : Dev nD) : W3 m ρ c (Proc.devRef .tc main_call0_v11) = table (m ((c : Thread nD τ).loc main_arg1)) (m ((c : Thread nD τ).loc main_arg3)) (selLab (m ((c : Thread nD τ).loc main_arg0)) (m ((c : Thread nD τ).loc main_arg2))) := by
  rw [← W2_lab m ρ c, ← W2_arg m ρ c main_arg1 (by decide), ← W2_arg m ρ c main_arg3 (by decide)]
  unfold W3 table
  after_reads_simp
  rfl
set_option maxHeartbeats 4000000 in
theorem W3_tableT (c : Dev nD) : W3 m ρ c (Proc.devRef .tc main_call0_v12) = tableT (m ((c : Thread nD τ).loc main_arg1)) (m ((c : Thread nD τ).loc main_arg3)) (selLab (m ((c : Thread nD τ).loc main_arg0)) (m ((c : Thread nD τ).loc main_arg2))) := by
  rw [← W2_lab m ρ c, ← W2_arg m ρ c main_arg1 (by decide), ← W2_arg m ρ c main_arg3 (by decide)]
  unfold W3 tableT table
  after_reads_simp
  rfl

section Results
variable (a0 : FVec F S20000x1 .f32) (a1 : FVec F S20000x6 .f32) (a2 : FVec F S20000x18 .f32) (a3 : FVec F S20000x3 .f32)

/-- The three results. -/
def resBoxes : FVec F S1000x6 .f32 :=
  extractStridedSlice S1000x6 ![0, 0] (outBoxes (idxCol (selIdx a0 a2)) (table a1 a3 (selLab a0 a2))) slices_S1024x6_S1000x6_0_0
def resScores : FVec F S1000 .f32 :=
  shapeCast S1000 (extractStridedSlice S1x1000 ![0, 0] (outScores (idxCol (selIdx a0 a2)) (idxRow (selIdx a0 a2)) (valRow (selVal a0 a2))
    (table a1 a3 (selLab a0 a2)) (tableT a1 a3 (selLab a0 a2))) slices_S1x1024_S1x1000_0_0) shapeCasts_S1x1000_S1000
def resLabels : IVec S1000 32 :=
  fptosi 32 (shapeCast S1000 (extractStridedSlice S1x1000 ![0, 0] (outLabels (idxRow (selIdx a0 a2)) (tableT a1 a3 (selLab a0 a2))) slices_S1x1024_S1x1000_0_0) shapeCasts_S1x1000_S1000)
end Results

theorem blk1_0 (c : Dev nD) : blk1 (V3 m ρ) c 0 t1_0 = V3 m ρ c main_call0_v15 := by
  have h : ∀ a, win1_0.index t1_0 a = 0 := by decide +kernel
  funext j; unfold blk1; blk_ext [h]
theorem blk1_1 (c : Dev nD) : blk1 (V3 m ρ) c 1 t1_0 = V3 m ρ c main_call0_v16 := by
  have h : ∀ a, win1_1.index t1_0 a = 0 := by decide +kernel
  funext j; unfold blk1; blk_ext [h]
theorem blk1_2 (c : Dev nD) : blk1 (V3 m ρ) c 2 t1_0 = V3 m ρ c main_call0_v17 := by
  have h : ∀ a, win1_2.index t1_0 a = 0 := by decide +kernel
  funext j; unfold blk1; blk_ext [h]
theorem blk1_3 (c : Dev nD) : blk1 (V3 m ρ) c 3 t1_0 = V3 m ρ c main_call0_v11 := by
  have h : ∀ a, win1_3.index t1_0 a = 0 := by decide +kernel
  funext j; unfold blk1; blk_ext [h]
theorem blk1_4 (c : Dev nD) : blk1 (V3 m ρ) c 4 t1_0 = V3 m ρ c main_call0_v12 := by
  have h : ∀ a, win1_4.index t1_0 a = 0 := by decide +kernel
  funext j; unfold blk1; blk_ext [h]

theorem W4_boxes (c : Dev nD) : W4 m ρ c (Proc.devRef .tc main_call0_v18_0) = outBoxes (V3 m ρ c main_call0_v15) (V3 m ρ c main_call0_v11) := by
  refine (W4_arr m ρ c 5).trans ?_
  refine (dat1 (V3 m ρ) c).arrAt_eq_of_after_last 5 t1_0 (by decide +kernel) _ fun j => ?_
  rw [after1_5, blk1_0, blk1_3]
  rfl
theorem W4_scores (c : Dev nD) : W4 m ρ c (Proc.devRef .tc main_call0_v18_1)
    = outScores (V3 m ρ c main_call0_v15) (V3 m ρ c main_call0_v16) (V3 m ρ c main_call0_v17) (V3 m ρ c main_call0_v11) (V3 m ρ c main_call0_v12) := by
  refine (W4_arr m ρ c 6).trans ?_
  refine (dat1 (V3 m ρ) c).arrAt_eq_of_after_last 6 t1_0 (by decide +kernel) _ fun j => ?_
  rw [after1_6, blk1_0, blk1_1, blk1_2, blk1_3, blk1_4]
  rfl
theorem W4_labels (c : Dev nD) : W4 m ρ c (Proc.devRef .tc main_call0_v18_2) = outLabels (V3 m ρ c main_call0_v16) (V3 m ρ c main_call0_v12) := by
  refine (W4_arr m ρ c 7).trans ?_
  refine (dat1 (V3 m ρ) c).arrAt_eq_of_after_last 7 t1_0 (by decide +kernel) _ fun j => ?_
  rw [after1_7, blk1_1, blk1_4]
  rfl

theorem W5_boxes (c : Dev nD) : W5 m ρ c (Proc.devRef .tc main_v0_0)
    = resBoxes (m ((c : Thread nD τ).loc main_arg0)) (m ((c : Thread nD τ).loc main_arg1)) (m ((c : Thread nD τ).loc main_arg2)) (m ((c : Thread nD τ).loc main_arg3)) := by
  unfold resBoxes
  rw [← W3_idxCol m ρ c, ← W3_table m ρ c, ← W4_boxes m ρ c]
  unfold W5
  after_reads_simp
  rfl
theorem W5_scores (c : Dev nD) : W5 m ρ c (Proc.devRef .tc main_v0_1)
    = resScores (m ((c : Thread nD τ).loc main_arg0)) (m ((c : Thread nD τ).loc main_arg1)) (m ((c : Thread nD τ).loc main_arg2)) (m ((c : Thread nD τ).loc main_arg3)) := by
  unfold resScores
  rw [← W3_idxCol m ρ c, ← W3_idxRow m ρ c, ← W3_valRow m ρ c, ← W3_table m ρ c, ← W3_tableT m ρ c, ← W4_scores m ρ c]
  unfold W5
  after_reads_simp
  rfl
theorem W5_labels (c : Dev nD) : W5 m ρ c (Proc.devRef .tc main_v0_2)
    = resLabels (m ((c : Thread nD τ).loc main_arg0)) (m ((c : Thread nD τ).loc main_arg1)) (m ((c : Thread nD τ).loc main_arg2)) (m ((c : Thread nD τ).loc main_arg3)) := by
  unfold resLabels
  rw [← W3_idxRow m ρ c, ← W3_tableT m ρ c, ← W4_labels m ρ c]
  unfold W5
  after_reads_simp
  rfl

end Cert.Proof
end
-- ==== Proof.Sort.lean ====
/- The sorting network of the first call over extended reals: every stage is a stage of the library's bitonic network on the keys
   (value, index), so the sorted column descends and rearranges the column before. -/
module

public import proofs.«01_k».proof.Proof.Net
public import Idealize.ShloMosaic.Lib.SortNet.Printed
public import Idealize.ShloMosaic.Lib.SortNet.Sorts

@[expose] public section

noncomputable section

namespace Cert.Proof

open Cert.KernelIdeal Cert.KernelIdeal.Gen
open Idealize.ShloMosaic Idealize.ShloMosaic.SortNet

/-- An entry's key: the greater value first, at equal values the smaller index. -/
abbrev Key : Type := EReal ×ₗ ℤᵒᵈ

/-- The place of a flat position. -/
def place (i : Fin (2 ^ 15)) : S256x128.Idx := fun a => if h : a = 0 then ⟨i.val / 128, by have := i.isLt; subst h; show _ < 256; omega⟩
  else ⟨i.val % 128, by
    have : a = 1 := by
      have := a.isLt; apply Fin.ext; have h' : a.val ≠ 0 := fun e => h (Fin.ext e)
      change a.val < 2 at this; show a.val = 1; omega
    subst this; show _ < 128; omega⟩

theorem place_zero (i : Fin (2 ^ 15)) : (place i 0).val = i.val / 128 := rfl
theorem place_one (i : Fin (2 ^ 15)) : (place i 1).val = i.val % 128 := rfl

/-- The entry's key at a flat position. -/
def keyAt (s : Col Ideal) (i : Fin (2 ^ 15)) : Key := toLex (s.1 (place i), OrderDual.toDual (s.2 (place i)).toInt)

theorem chunk_div (c : Fin (2 ^ (15 - 7))) (j : Fin (2 ^ 7)) : (chunkPos (P := 15) (p := 7) (by decide) c j).val / 128 = c.val := by
  have := j.isLt; show (c.val * 2 ^ 7 + j.val) / 128 = c.val; omega
theorem chunk_mod (c : Fin (2 ^ (15 - 7))) (j : Fin (2 ^ 7)) : (chunkPos (P := 15) (p := 7) (by decide) c j).val % 128 = j.val := by
  have := j.isLt; show (c.val * 2 ^ 7 + j.val) % 128 = j.val; omega

theorem eq_chunk (i : Fin (2 ^ 15)) : ∃ (c : Fin (2 ^ (15 - 7))) (j : Fin (2 ^ 7)), i = chunkPos (P := 15) (p := 7) (by decide) c j := by
  have := i.isLt
  refine ⟨⟨i.val / 128, by omega⟩, ⟨i.val % 128, by omega⟩, Fin.ext ?_⟩
  show i.val = i.val / 128 * 2 ^ 7 + i.val % 128
  omega

/-- The lanes of one row, and the rows of one lane. -/
def laneColumn (c : Fin (2 ^ (15 - 7))) : Column S256x128 1 7 where
  col j := place (chunkPos (P := 15) (p := 7) (by decide) c j)
  size_eq := rfl
  coord j := by rw [place_one, chunk_mod]
  other j j' b hb := by
    have : b = 0 := by
      have := b.isLt; apply Fin.ext; have h' : b.val ≠ 1 := fun e => hb (Fin.ext e)
      change b.val < 2 at this; show b.val = 0; omega
    subst this
    apply Fin.ext; rw [place_zero, place_zero, chunk_div, chunk_div]
def rowColumn (j : Fin (2 ^ 7)) : Column S256x128 0 8 where
  col c := place (chunkPos (P := 15) (p := 7) (by decide) c j)
  size_eq := rfl
  coord c := by rw [place_zero]; exact chunk_div c j
  other c c' b hb := by
    have : b = 1 := by
      have := b.isLt; apply Fin.ext; have h' : b.val ≠ 0 := fun e => hb (Fin.ext e)
      change b.val < 2 at this; show b.val = 1; omega
    subst this
    apply Fin.ext; rw [place_one, place_one]; exact (chunk_mod c j).trans (chunk_mod c' j).symm

theorem laneIota_place (i : Fin (2 ^ 15)) : laneIota (place i) = BitVec.ofNat 32 (i.val % 128) := by
  obtain ⟨c, j, rfl⟩ := eq_chunk i
  rw [chunk_mod]
  exact (laneColumn c).iota_apply .tc iota_S256x128_d1_w32 j
theorem rowIota_place (i : Fin (2 ^ 15)) : rowIota (place i) = BitVec.ofNat 32 (i.val / 128) := by
  obtain ⟨c, j, rfl⟩ := eq_chunk i
  rw [chunk_div]
  exact (rowColumn j).iota_apply .tc iota_S256x128_d0_w32 c

theorem toNat_pow {n : ℕ} (h : n < 32) : (BitVec.ofNat 32 (2 ^ n)).toNat = 2 ^ n := by
  rw [BitVec.toNat_ofNat, Nat.mod_eq_of_lt (Nat.pow_lt_pow_right (by decide) h)]

theorem and_high (n d : ℕ) (h : 7 ≤ d) : n / 128 &&& 2 ^ (d - 7) = 0 ↔ n &&& 2 ^ d = 0 := by
  rw [and_two_pow_eq_zero_iff_testBit, and_two_pow_eq_zero_iff_testBit, show (128 : ℕ) = 2 ^ 7 from rfl, Nat.testBit_div_two_pow,
    show d - 7 + 7 = d from by omega]
theorem and_low (n d : ℕ) (h : d < 7) : n % 128 &&& 2 ^ d = 0 ↔ n &&& 2 ^ d = 0 := by
  rw [and_two_pow_eq_zero_iff_testBit, and_two_pow_eq_zero_iff_testBit, show (128 : ℕ) = 2 ^ 7 from rfl, Nat.testBit_mod_two_pow]
  simp [h]

theorem bitSet_apply (w : IVec S256x128 32) (i : S256x128.Idx) (n d : ℕ) (hw : w i = BitVec.ofNat 32 n) (hn : n < 2 ^ 32) (hd : d < 32) :
    bitSet w (BitVec.ofNat 32 (2 ^ d)) i = BitVec.ofBool (decide (n &&& 2 ^ d ≠ 0)) := by
  show BitVec.ofBool (IntOp.andi (w i) (BitVec.ofNat 32 (2 ^ d)) != 0#32) = _
  rw [hw]; congr 1
  rw [Bool.eq_iff_iff, bne_iff_ne, decide_eq_true_eq, Ne, and_distance_eq_zero_iff hn _ (toNat_pow hd)]
theorem bitClear_apply (w : IVec S256x128 32) (i : S256x128.Idx) (n d : ℕ) (hw : w i = BitVec.ofNat 32 n) (hn : n < 2 ^ 32) (hd : d < 32) :
    bitClear w (BitVec.ofNat 32 (2 ^ d)) i = BitVec.ofBool (decide (n &&& 2 ^ d = 0)) := by
  show BitVec.ofBool (IntOp.andi (w i) (BitVec.ofNat 32 (2 ^ d)) == 0#32) = _
  rw [hw]; congr 1
  rw [Bool.eq_iff_iff, beq_iff_eq, decide_eq_true_eq, and_distance_eq_zero_iff hn _ (toNat_pow hd)]

theorem flatBit_place {d : ℕ} (hd : d < 15) (i : Fin (2 ^ 15)) : flatBit d (place i) = BitVec.ofBool (decide (i.val &&& 2 ^ d ≠ 0)) := by
  have hi := i.isLt
  unfold flatBit
  split
  case isTrue h =>
    rw [bitSet_apply _ _ _ _ (laneIota_place i) (by omega) (by omega)]
    simp only [ne_eq, and_low _ _ h]
  case isFalse h =>
    rw [bitSet_apply _ _ _ _ (rowIota_place i) (by omega) (by omega)]
    simp only [ne_eq, and_high _ _ (not_lt.mp h)]

/-- A position's mate is its partner. -/
theorem mate_place {d : ℕ} (hd : d < 15) (s : Col Ideal) (i : Fin (2 ^ 15)) :
    (mate d s).1 (place i) = s.1 (place (partner 15 d i)) ∧ (mate d s).2 (place i) = s.2 (place (partner 15 d i)) := by
  obtain ⟨c, j, rfl⟩ := eq_chunk i
  unfold mate
  split
  case isTrue h =>
    rw [partner_chunkPos (by decide) h]
    have hu : ∀ j', flatBit d ((laneColumn c).col j') = BitVec.ofBool (decide (j'.val &&& 2 ^ d ≠ 0)) := fun j' => by
      refine (flatBit_place hd _).trans ?_
      simp only [ne_eq, chunkPos_and (P := 15) (p := 7) (by decide) h]
    have h1 := toNat_pow (n := d) (by omega)
    have hlt : 2 ^ d < 2 ^ 7 := Nat.pow_lt_pow_right (by decide) h
    have h2 : (BitVec.ofNat 32 (128 - 2 ^ d)).toNat = 2 ^ 7 - 2 ^ d := by
      rw [BitVec.toNat_ofNat, Nat.mod_eq_of_lt (by omega)]; rfl
    exact ⟨printedPartner_apply (laneColumn c) h _ _ hu _ _ h1 h2 s.1 j, printedPartner_apply (laneColumn c) h _ _ hu _ _ h1 h2 s.2 j⟩
  case isFalse h =>
    have h := not_lt.mp h
    rw [partner_chunkPos_high (by decide) h hd]
    have hu : ∀ c', flatBit d ((rowColumn j).col c') = BitVec.ofBool (decide (c'.val &&& 2 ^ (d - 7) ≠ 0)) := fun c' => by
      refine (flatBit_place hd _).trans ?_
      simp only [ne_eq, chunkPos_high_clear_iff (P := 15) (p := 7) (by decide) h]
    have h1 := toNat_pow (n := d - 7) (by omega)
    have hlt : 2 ^ (d - 7) < 2 ^ 8 := Nat.pow_lt_pow_right (by decide) (by omega)
    have h2 : (BitVec.ofNat 32 (256 - 2 ^ (d - 7))).toNat = 2 ^ 8 - 2 ^ (d - 7) := by
      rw [BitVec.toNat_ofNat, Nat.mod_eq_of_lt (by omega)]; rfl
    exact ⟨printedPartner_apply (rowColumn j) (by omega) _ _ hu _ _ h1 h2 s.1 c,
      printedPartner_apply (rowColumn j) (by omega) _ _ hu _ _ h1 h2 s.2 c⟩

/-- The network's direction at a level. -/
def low (t : ℕ) (i : Fin (2 ^ 15)) : Bool := decide (i.val &&& 2 ^ t = 0) == true

theorem direction_place {t d : ℕ} (ht : t ≤ 15) (hd : d < 15) (i : Fin (2 ^ 15)) :
    direction t d (place i) = BitVec.ofBool (!upperXor d (low t) i) := by
  have hi := i.isLt
  unfold direction upperXor low
  split
  case isTrue h =>
    have hc : (if t < 7 then bitClear laneIota (BitVec.ofNat 32 (2 ^ t)) else bitClear rowIota (BitVec.ofNat 32 (2 ^ (t - 7)))) (place i)
        = BitVec.ofBool (decide (i.val &&& 2 ^ t = 0)) := by
      split
      case isTrue h =>
        rw [bitClear_apply _ _ _ _ (laneIota_place i) (by omega) (by omega)]
        simp only [and_low _ _ h]
      case isFalse h =>
        rw [bitClear_apply _ _ _ _ (rowIota_place i) (by omega) (by omega)]
        simp only [and_high _ _ (not_lt.mp h)]
    rw [xori_apply_ofBool _ _ _ _ _ hc (xori_one_apply _ _ _ (flatBit_place hd i))]
    congr 1
    cases decide (i.val &&& 2 ^ t = 0) <;> cases decide (i.val &&& 2 ^ d ≠ 0) <;> rfl
  case isFalse h =>
    have : t = 15 := by omega
    subst this
    have hz : i.val &&& 2 ^ 15 = 0 := by
      rw [and_two_pow_eq_zero_iff_testBit]; exact Nat.testBit_lt_two_pow hi
    rw [flatBit_place hd, hz]
    congr 1
    cases decide (i.val &&& 2 ^ d ≠ 0) <;> rfl

/-- Whether one's own entry comes first, on keys. -/
theorem selfFirst_apply (s p : Col Ideal) (i : S256x128.Idx) :
    selfFirst s p i = BitVec.ofBool (decide ((toLex (p.1 i, OrderDual.toDual (p.2 i).toInt) : Key) < toLex (s.1 i, OrderDual.toDual (s.2 i).toInt))) := by
  show IntOp.ori (Ideal.cmp .ogt (s.1 i) (p.1 i)) (IntOp.andi (Ideal.cmp .oeq (s.1 i) (p.1 i)) (IntOp.cmpi .slt (s.2 i) (p.2 i))) = _
  have e1 : Ideal.cmp .ogt (s.1 i) (p.1 i) = BitVec.ofBool (decide (p.1 i < s.1 i)) := by
    simp [Ideal.cmp]
  have e2 : Ideal.cmp .oeq (s.1 i) (p.1 i) = BitVec.ofBool (decide (p.1 i = s.1 i)) := by
    simp [Ideal.cmp, eq_comm]
  have e3 : IntOp.cmpi .slt (s.2 i) (p.2 i) = BitVec.ofBool (decide ((s.2 i).toInt < (p.2 i).toInt)) := by
    rfl
  rw [e1, e2, e3]
  have e4 : decide ((toLex (p.1 i, OrderDual.toDual (p.2 i).toInt) : Key) < toLex (s.1 i, OrderDual.toDual (s.2 i).toInt))
      = (decide (p.1 i < s.1 i) || (decide (p.1 i = s.1 i) && decide ((s.2 i).toInt < (p.2 i).toInt))) := by
    rw [Bool.eq_iff_iff, decide_eq_true_eq, Prod.Lex.toLex_lt_toLex]
    simp
  rw [e4]
  generalize decide (p.1 i < s.1 i) = a
  generalize decide (p.1 i = s.1 i) = b
  generalize decide ((s.2 i).toInt < (p.2 i).toInt) = c
  cases a <;> cases b <;> cases c <;> rfl

/-- One stage on the keys. -/
theorem keyAt_stageStep (s : Col Ideal) {l d : ℕ} (hl : l < 15) (hd : d ≤ l) :
    keyAt (stageStep s (l + 1, d)) = Network.apply (stage 15 d fun i => decide (i.val &&& 2 ^ (l + 1) = 0) == true) (keyAt s) := by
  have hd' : d < 15 := by omega
  have hp : ∀ j : Fin (2 ^ 15), upperXor d (low (l + 1)) (partner 15 d j) = !upperXor d (low (l + 1)) j := fun j =>
    upperXor_partner hd' _ j (sizeClear_partner hd' hd true j)
  funext i
  rw [show (fun i : Fin (2 ^ 15) => decide (i.val &&& 2 ^ (l + 1) = 0) == true) = low (l + 1) from rfl, ← stage_upperXor,
    apply_stage_select hd' _ hp]
  obtain ⟨m1, m2⟩ := mate_place hd' s i
  have hw : xori (selfFirst s (mate d s)) (direction (l + 1) d) (place i)
      = BitVec.ofBool (decide (decide (keyAt s (partner 15 d i) < keyAt s i) = upperXor d (low (l + 1)) i)) := by
    rw [xori_apply_ofBool _ _ _ _ _ (selfFirst_apply s (mate d s) (place i)) (direction_place (by omega) hd' i), m1, m2]
    congr 1
    change (decide (keyAt s (partner 15 d i) < keyAt s i) ^^ !upperXor d (low (l + 1)) i) = _
    cases decide (keyAt s (partner 15 d i) < keyAt s i) <;> cases upperXor d (low (l + 1)) i <;> rfl
  have hk : keyAt (stageStep s (l + 1, d)) i = toLex
      (Scalar.select (xori (selfFirst s (mate d s)) (direction (l + 1) d) (place i)) (s.1 (place i)) ((mate d s).1 (place i)),
       OrderDual.toDual (Scalar.select (xori (selfFirst s (mate d s)) (direction (l + 1) d) (place i)) (s.2 (place i)) ((mate d s).2 (place i))).toInt) := rfl
  rw [hk, hw, m1, m2, select_ofBool, select_ofBool]
  by_cases hc : decide (keyAt s (partner 15 d i) < keyAt s i) = upperXor d (low (l + 1)) i
  · rw [if_pos hc, decide_eq_true hc]; rfl
  · rw [if_neg hc, decide_eq_false hc]; rfl

theorem keyAt_foldl (L : List (ℕ × ℕ)) (hL : ∀ td ∈ L, ∃ l, td.1 = l + 1 ∧ l < 15 ∧ td.2 ≤ l) (s : Col Ideal) :
    keyAt (L.foldl stageStep s)
      = Network.apply (L.flatMap fun td => stage 15 td.2 fun i => decide (i.val &&& 2 ^ td.1 = 0) == true) (keyAt s) := by
  induction L generalizing s with
  | nil => rfl
  | cons td L ih =>
    obtain ⟨l, e, hl, hd⟩ := hL td List.mem_cons_self
    rw [List.foldl_cons, ih (fun x hx => hL x (List.mem_cons_of_mem _ hx)), List.flatMap_cons, Network.apply_append]
    obtain ⟨t, d⟩ := td
    subst e
    rw [keyAt_stageStep s hl hd]

/-- The whole network on the keys. -/
theorem keyAt_sortCol (s : Col Ideal) : keyAt (sortCol s) = Network.apply (sortNet 15 true) (keyAt s) := by
  unfold sortCol
  rw [keyAt_foldl]
  · unfold plan sortNet
    rw [List.flatMap_assoc]
    simp only [List.flatMap_map]
  · intro td h
    unfold plan at h
    simp only [List.mem_flatMap, List.mem_range, List.mem_map, List.mem_reverse] at h
    obtain ⟨l, hl, d, hd, rfl⟩ := h
    exact ⟨l, rfl, hl, by omega⟩

/-- The sorted column descends and rearranges the column before. -/
theorem sortCol_sorted (s : Col Ideal) : ∃ σ : Equiv.Perm (Fin (2 ^ 15)),
    (∀ i, (sortCol s).1 (place i) = s.1 (place (σ i)) ∧ (sortCol s).2 (place i) = s.2 (place (σ i)))
      ∧ Antitone fun i => keyAt s (σ i) := by
  obtain ⟨σ, hσ⟩ := Network.exists_perm (sortNet 15 true) (keyAt s)
  have hk := keyAt_sortCol s
  refine ⟨σ, fun i => ?_, ?_⟩
  · have h := congrFun (hk.trans hσ) i
    have h' : ((sortCol s).1 (place i), (sortCol s).2 (place i) |>.toInt) = (s.1 (place (σ i)), (s.2 (place (σ i))).toInt) := h
    exact ⟨congrArg Prod.fst h', BitVec.eq_of_toInt_eq (congrArg Prod.snd h')⟩
  · have h := sortNet_apply_antitone 15 (keyAt s)
    rw [hσ] at h
    exact h

end Cert.Proof
end
-- ==== Proof.Best.lean ====
/- The scores of the locations, and the first call's pieces read at an index. -/
module

public import proofs.«01_k».proof.Proof.KernelOut
public import proofs.«01_k».proof.Proof.Sort
public import Idealize.ShloMosaic.Lib.Pointwise

@[expose] public section

set_option maxRecDepth 16384

noncomputable section

namespace Cert.Proof

open Cert.KernelIdeal Cert.KernelIdeal.Gen
open Idealize.ShloMosaic Idealize.ShloMosaic.SortNet

/-- The score of a location for a class. -/
def score (a0 : FVec Ideal S20000x1 .f32) (a2 : FVec Ideal S20000x18 .f32) (n : Fin 20000) (c : Fin 18) : EReal :=
  Ideal.logistic (a2 (ix2 n c)) * Ideal.logistic (a0 (ix2 n 0))

/-- The best score of a location. -/
def best (a0 : FVec Ideal S20000x1 .f32) (a2 : FVec Ideal S20000x18 .f32) (n : Fin 20000) : EReal :=
  Finset.univ.fold max ⊥ fun c : Fin 18 => score a0 a2 n c

theorem clsIn_at (a2 : FVec Ideal S20000x18 .f32) (r : Fin 157) (l : Fin 128) (c : Fin 18) (h : r.val * 128 + l.val < 20000) :
    clsIn a2 (ix3 r l c) = a2 (ix2 ⟨r.val * 128 + l.val, h⟩ c) := by
  pointwise [clsIn]
  rw [dif_pos h]

theorem ctrIn_at (a0 : FVec Ideal S20000x1 .f32) (r : Fin 157) (l : Fin 128) (h : r.val * 128 + l.val < 20000) :
    ctrIn a0 (ix2 r l) = a0 (ix2 ⟨r.val * 128 + l.val, h⟩ 0) := by
  pointwise [ctrIn]
  rw [dif_pos h]

theorem ofBits_bot : Ideal.ofBits .f32 0xFF800000#32 = ⊥ := by simp [Ideal.ofBits, Ideal.ieee]
theorem ofBits_negOne : Ideal.ofBits .f32 0xBF800000#32 = -1 := IdealRules.sign_bit.ideal_negOnePat .f32

/-- The greatest of eighteen. -/
def top18 (f : Fin 18 → EReal) : EReal := Finset.univ.fold max ⊥ f

theorem best_eq (a0 : FVec Ideal S20000x1 .f32) (a2 : FVec Ideal S20000x18 .f32) (n : Fin 20000) : best a0 a2 n = top18 (score a0 a2 n) := rfl

theorem le_top18 (f : Fin 18 → EReal) (c : Fin 18) : f c ≤ top18 f :=
  ((Finset.fold_max_le _).mp le_rfl).2 c (Finset.mem_univ c)

theorem top18_attained (f : Fin 18 → EReal) : ∃ c, f c = top18 f := by
  by_contra h
  push Not at h
  have hlt : ∀ c, f c < top18 f := fun c => lt_of_le_of_ne (le_top18 f c) (h c)
  have : top18 f < top18 f :=
    (Finset.fold_max_lt (s := Finset.univ) (f := f) (b := (⊥ : EReal)) (c := top18 f)).mpr ⟨lt_of_le_of_lt bot_le (hlt 0), fun c _ => hlt c⟩
  exact lt_irrefl _ this

/-- The first class attaining the greatest. -/
theorem firstTop_exists (f : Fin 18 → EReal) : ∃ c, f c = top18 f ∧ ∀ d, d < c → f d ≠ top18 f := by
  classical
  have hne : (Finset.univ.filter fun c => f c = top18 f).Nonempty := by
    obtain ⟨c, hc⟩ := top18_attained f
    exact ⟨c, by simp [hc]⟩
  refine ⟨(Finset.univ.filter fun c => f c = top18 f).min' hne, ?_, fun d hd e => ?_⟩
  · have := Finset.min'_mem _ hne
    simpa using this
  · exact absurd (Finset.min'_le _ d (by simp [e])) (not_le.mpr hd)
def firstTop (f : Fin 18 → EReal) : Fin 18 := (firstTop_exists f).choose
theorem firstTop_top (f : Fin 18 → EReal) : f (firstTop f) = top18 f := (firstTop_exists f).choose_spec.1
theorem firstTop_first (f : Fin 18 → EReal) (d : Fin 18) (h : d < firstTop f) : f d ≠ top18 f := (firstTop_exists f).choose_spec.2 d h

theorem le_minsi (x y z : BitVec 32) : x.toInt ≤ (IntOp.minsi y z).toInt ↔ x.toInt ≤ y.toInt ∧ x.toInt ≤ z.toInt := by
  unfold IntOp.minsi
  simp only [BitVec.slt_iff_toInt_lt]
  split <;> omega

theorem least_label (f : Fin 18 → EReal) [∀ c, Decidable (f c = top18 f)] :
    Finset.univ.fold IntOp.minsi 2147483647#32 (fun c : Fin 18 => if f c = top18 f then BitVec.ofNat 32 c.val else 1000000#32)
      = BitVec.ofNat 32 (firstTop f).val := by
  have hiff := fun x => Finset.fold_op_rel_iff_and (op := IntOp.minsi) (r := fun x y : BitVec 32 => x.toInt ≤ y.toInt) (fun {x y z} => le_minsi x y z)
    (f := fun c : Fin 18 => if f c = top18 f then BitVec.ofNat 32 c.val else 1000000#32) (b := 2147483647#32) (s := Finset.univ) (c := x)
  have hof : ∀ c : Fin 18, (BitVec.ofNat 32 c.val).toInt = c.val := by decide
  apply BitVec.eq_of_toInt_eq
  apply le_antisymm
  · have := ((hiff _).mp le_rfl).2 (firstTop f) (Finset.mem_univ _)
    rwa [if_pos (firstTop_top f)] at this
  · refine (hiff _).mpr ⟨?_, fun c _ => ?_⟩
    · have := (firstTop f).isLt
      rw [hof, show (2147483647#32 : BitVec 32).toInt = 2147483647 from rfl]; omega
    · have := (firstTop f).isLt
      split
      · next h =>
        rw [hof, hof]
        by_contra hlt
        exact firstTop_first f c (by rw [Fin.lt_def]; omega) h
      · rw [hof, show (1000000#32 : BitVec 32).toInt = 1000000 from rfl]; omega

theorem pay12_at (x : FVec Ideal S157x128x18 .f32) (y : FVec Ideal S157x128 .f32) (r : Fin 157) (l : Fin 128) :
    (k0_pay12 (F := Ideal) x y (ix2 r l) : EReal) = top18 fun c : Fin 18 => Ideal.logistic (x (ix3 r l c)) * Ideal.logistic (y (ix2 r l)) := by
  pointwise [k0_pay12, k0_pay11]
  rw [ofBits_bot]
  rfl

theorem pos_word (r : Fin 256) (l : Fin 128) :
    IntOp.addi (IntOp.muli (BitVec.ofNat 32 r.val) 128#32) (BitVec.ofNat 32 l.val) = BitVec.ofNat 32 (r.val * 128 + l.val) := by
  unfold IntOp.addi IntOp.muli
  rw [BitVec.ofNat_add, BitVec.ofNat_mul]

theorem toInt_small (n : ℕ) (h : n < 2147483648) : (BitVec.ofNat 32 n).toInt = n := by
  rw [BitVec.toInt_ofNat']
  rw [Int.bmod_eq_of_le] <;> omega

theorem pay14_at (x : FVec Ideal S157x128x18 .f32) (y : FVec Ideal S157x128 .f32) (r : Fin 256) (l : Fin 128) :
    (k0_pay14 (F := Ideal) x y (ix2 r l) : EReal) = if h : r.val * 128 + l.val < 20000 then k0_pay12 (F := Ideal) x y (ix2 ⟨r.val, by omega⟩ l) else -1 := by
  pointwise [k0_pay14]
  rw [pos_word, ofBits_negOne]
  have hl := l.isLt
  have hc : IntOp.cmpi .slt (BitVec.ofNat 32 (r.val * 128 + l.val)) 20000#32 = BitVec.ofBool (decide (r.val * 128 + l.val < 20000)) := by
    unfold IntOp.cmpi
    congr 1
    have := r.isLt
    show BitVec.slt _ _ = _
    rw [BitVec.slt_eq_decide, toInt_small _ (by omega)]
    simp only [decide_eq_decide]
    rw [show (20000#32 : BitVec 32).toInt = 20000 from rfl]
    omega
  rw [hc]
  by_cases h : r.val * 128 + l.val < 20000
  · rw [dif_pos (by omega), dif_pos h, decide_eq_true h]
    rfl
  · rw [dif_neg h, decide_eq_false h]
    split <;> rfl

theorem pay15_at (r : Fin 256) (l : Fin 128) : k0_pay15 (ix2 r l) = BitVec.ofNat 32 (r.val * 128 + l.val) := by
  pointwise [k0_pay15]
  rw [pos_word]

theorem sitofp_word (b : BitVec 32) : (FloatOps.sitofp (F := Ideal) .f32 b : EReal) = ((b.toInt : ℝ) : EReal) := rfl

theorem pay13_at (x : FVec Ideal S157x128x18 .f32) (y : FVec Ideal S157x128 .f32) (r : Fin 157) (l : Fin 128) :
    (k0_pay13 (F := Ideal) x y (ix2 r l) : EReal)
      = (((firstTop fun c : Fin 18 => Ideal.logistic (x (ix3 r l c)) * Ideal.logistic (y (ix2 r l))).val : ℝ) : EReal) := by
  pointwise [k0_pay13, k0_pay12, k0_pay11]
  rw [ofBits_bot]
  rw [sitofp_word]
  refine (congrArg (fun b : BitVec 32 => ((b.toInt : ℝ) : EReal))
    (least_label (fun c : Fin 18 => Ideal.logistic (x (ix3 r l c)) * Ideal.logistic (y (ix2 r l))))).trans ?_
  generalize (firstTop fun c : Fin 18 => Ideal.logistic (x (ix3 r l c)) * Ideal.logistic (y (ix2 r l))) = k
  beta_reduce
  rw [toInt_small _ (by have := k.isLt; omega)]
  norm_cast

theorem logistic_nonneg (x : EReal) : 0 ≤ Ideal.logistic x := by
  induction x using EReal.rec with
  | bot => rw [Ideal.logistic_bot]
  | top => rw [Ideal.logistic_top]; exact zero_le_one
  | coe r => rw [Ideal.logistic_coe]; exact_mod_cast inv_nonneg.mpr (by positivity)

theorem best_nonneg (a0 : FVec Ideal S20000x1 .f32) (a2 : FVec Ideal S20000x18 .f32) (n : Fin 20000) : 0 ≤ best a0 a2 n :=
  le_trans (mul_nonneg (logistic_nonneg _) (logistic_nonneg _)) (le_top18 (score a0 a2 n) 0)

/-- The selected labels' entry of a location. -/
theorem selLab_at (a0 : FVec Ideal S20000x1 .f32) (a2 : FVec Ideal S20000x18 .f32) (r : Fin 157) (l : Fin 128) (h : r.val * 128 + l.val < 20000) :
    (selLab a0 a2 (ix2 r l) : EReal) = (((firstTop (score a0 a2 ⟨r.val * 128 + l.val, h⟩)).val : ℝ) : EReal) := by
  unfold selLab
  rw [pay13_at]
  unfold score
  simp only [clsIn_at a2 r l _ h, ctrIn_at a0 r l h]

theorem place_eq (i : Fin (2 ^ 15)) : place i = ix2 (n0 := 256) (n1 := 128) ⟨i.val / 128, by have := i.isLt; omega⟩ ⟨i.val % 128, by omega⟩ := by
  funext a
  fin_cases a <;> rfl

/-- The column before the sort. -/
theorem start_val (a0 : FVec Ideal S20000x1 .f32) (a2 : FVec Ideal S20000x18 .f32) (i : Fin (2 ^ 15)) :
    ((startCol (F := Ideal) (clsIn a2) (ctrIn a0)).1 (place i) : EReal) = if h : i.val < 20000 then best a0 a2 ⟨i.val, h⟩ else -1 := by
  have he : i.val / 128 * 128 + i.val % 128 = i.val := by omega
  show (k0_pay14 (F := Ideal) (clsIn a2) (ctrIn a0) (place i) : EReal) = _
  rw [place_eq, pay14_at]
  simp only [he]
  by_cases h : i.val < 20000
  · rw [dif_pos h, dif_pos h, pay12_at, best_eq]
    unfold score
    have h' : i.val / 128 * 128 + i.val % 128 < 20000 := by rw [he]; exact h
    have e : (⟨i.val / 128 * 128 + i.val % 128, h'⟩ : Fin 20000) = ⟨i.val, h⟩ := Fin.ext he
    rw [← e]
    congr 1
    funext c
    rw [clsIn_at a2 ⟨i.val / 128, _⟩ ⟨i.val % 128, _⟩ c h', ctrIn_at a0 ⟨i.val / 128, _⟩ ⟨i.val % 128, _⟩ h']
  · rw [dif_neg h, dif_neg h]

theorem start_idx (a0 : FVec Ideal S20000x1 .f32) (a2 : FVec Ideal S20000x18 .f32) (i : Fin (2 ^ 15)) :
    (startCol (F := Ideal) (clsIn a2) (ctrIn a0)).2 (place i) = BitVec.ofNat 32 i.val := by
  show k0_pay15 (place i) = _
  rw [place_eq, pay15_at]
  congr 1
  show i.val / 128 * 128 + i.val % 128 = i.val
  omega

end Cert.Proof
end
-- ==== Proof.Pick.lean ====
/- The locations the first call selects: the first of the order by best score and then position. -/
module

public import proofs.«01_k».proof.Proof.Best
public import Idealize.ShloMosaic.Lib.SortPrefix

@[expose] public section

set_option maxRecDepth 16384

noncomputable section

namespace Cert.Proof

open Cert.KernelIdeal Cert.KernelIdeal.Gen
open Idealize.ShloMosaic Idealize.ShloMosaic.SortNet

/-- The greater key first, at equal keys the smaller position. -/
def before {n : ℕ} (b : Fin n → EReal) (p q : Fin n) : Bool := decide (b q < b p) || (decide (b p = b q) && decide (p < q))

theorem before_strict {n : ℕ} (b : Fin n → EReal) : StrictTotalBefore (before b) :=
  StrictTotalBefore.of_key_then_position (fun x y : EReal => decide (y < x)) b (fun a => by simp)
    (fun x y z h h' => by simp only [decide_eq_true_eq] at h h' ⊢; exact lt_trans h' h)
    (fun x y => by simp only [decide_eq_true_eq]; rcases lt_trichotomy x y with h | h | h <;> simp [h])

section
variable (a0 : FVec Ideal S20000x1 .f32) (a2 : FVec Ideal S20000x18 .f32)

/-- The column's entries before the sort, as keys. -/
theorem keyAt_start (i : Fin (2 ^ 15)) : keyAt (startCol (F := Ideal) (clsIn a2) (ctrIn a0)) i
    = toLex ((if h : i.val < 20000 then best a0 a2 ⟨i.val, h⟩ else -1 : EReal), OrderDual.toDual (i.val : ℤ)) := by
  unfold keyAt
  rw [start_idx, toInt_small _ (by have := i.isLt; omega)]
  exact congrArg (fun v : EReal => (toLex (v, OrderDual.toDual (i.val : ℤ)) : Key)) (start_val a0 a2 i)

theorem picked : ∃ pick : Fin 1024 → Fin 20000,
    (∀ i : Fin 1024, shapeCast S1024 (selIdx a0 a2) shapeCasts_S8x128_S1024 (ix1 i) = BitVec.ofNat 32 (pick i).val)
    ∧ (∀ i : Fin 1024, (shapeCast S1024 (selVal a0 a2) shapeCasts_S8x128_S1024 (ix1 i) : EReal) = best a0 a2 (pick i))
    ∧ Function.Injective pick
    ∧ (∀ i j, i < j → before (best a0 a2) (pick j) (pick i) = false)
    ∧ ∀ i p, (∀ j, pick j ≠ p) → before (best a0 a2) p (pick i) = false := by
  obtain ⟨σ, hσ, hanti⟩ := sortCol_sorted (startCol (F := Ideal) (clsIn a2) (ctrIn a0))
  have hle : ∀ i j, i ≤ j → keyAt (startCol (F := Ideal) (clsIn a2) (ctrIn a0)) (σ j) ≤ keyAt (startCol (F := Ideal) (clsIn a2) (ctrIn a0)) (σ i) :=
    fun i j h => hanti h
  simp only [keyAt_start, Prod.Lex.toLex_le_toLex, OrderDual.toDual_le_toDual] at hle
  have hneg : (-1 : EReal) < 0 := by rw [EReal.neg_lt_comm]; simp
  have hreal : ∀ i : Fin (2 ^ 15), i.val < 1024 → (σ i).val < 20000 := by
    intro i hi
    by_contra hc
    have hsub : ∀ j ∈ Finset.Ici i, σ j ∈ Finset.Ici (⟨20000, by norm_num⟩ : Fin (2 ^ 15)) := by
      intro j hj
      rw [Finset.mem_Ici] at hj ⊢
      have h := hle i j hj
      rw [dif_neg hc] at h
      rw [Fin.le_def]
      by_contra hlt
      have hlt' : (σ j).val < 20000 := by simpa using hlt
      rw [dif_pos hlt'] at h
      have h0 := best_nonneg a0 a2 ⟨(σ j).val, hlt'⟩
      rcases h with h | ⟨h, -⟩
      · exact absurd (lt_trans h hneg) (not_lt.mpr h0)
      · rw [h] at h0; exact absurd hneg (not_lt.mpr h0)
    have hcard := Finset.card_le_card_of_injOn σ hsub σ.injective.injOn
    rw [Fin.card_Ici, Fin.card_Ici] at hcard
    simp only at hcard
    omega
  have hord : ∀ (i j : Fin (2 ^ 15)) (hi : (σ i).val < 20000) (hj : (σ j).val < 20000), i ≤ j →
      before (best a0 a2) ⟨(σ j).val, hj⟩ ⟨(σ i).val, hi⟩ = false := by
    intro i j hi hj hij
    have h := hle i j hij
    rw [dif_pos hi, dif_pos hj] at h
    unfold before
    rw [Bool.or_eq_false_iff, Bool.and_eq_false_iff]
    simp only [decide_eq_false_iff_not, Fin.mk_lt_mk, not_lt]
    rcases h with h | ⟨h, h'⟩
    · exact ⟨le_of_lt h, Or.inl (ne_of_lt h)⟩
    · exact ⟨le_of_eq h, Or.inr (by exact_mod_cast h')⟩
  have hcast : ∀ i : Fin 1024, (Fin.castLE (by norm_num) i : Fin (2 ^ 15)).val < 1024 := fun i => i.isLt
  have hplace : ∀ i : Fin 1024, place (Fin.castLE (by norm_num) i : Fin (2 ^ 15)) = ix2 (n0 := 256) (n1 := 128) ⟨i.val / 128, by have := i.isLt; omega⟩ ⟨i.val % 128, by omega⟩ :=
    fun i => place_eq _
  refine ⟨fun i => ⟨(σ (Fin.castLE (by norm_num) i)).val, hreal _ (hcast i)⟩, fun i => ?_, fun i => ?_, fun i j h => ?_, fun i j h => ?_, fun i p h => ?_⟩
  · have h := (hσ (Fin.castLE (by norm_num) i)).2
    rw [start_idx, hplace] at h
    rw [← h]
    pointwise [selIdx, topIdx]
  · have h := (hσ (Fin.castLE (by norm_num) i)).1
    have h2 := start_val a0 a2 (σ (Fin.castLE (by norm_num) i))
    rw [dif_pos (hreal _ (hcast i))] at h2
    rw [← h2]
    refine Eq.trans ?_ h
    rw [hplace]
    pointwise [selVal, topVal]
  · have := Fin.mk.inj_iff.mp h
    have := σ.injective (Fin.ext this)
    exact Fin.castLE_injective _ this
  · exact hord _ _ _ _ (by have h' : i.val < j.val := h; rw [Fin.le_def]; show i.val ≤ j.val; omega)
  · have hp : σ (σ.symm ⟨p.val, by have := p.isLt; omega⟩) = ⟨p.val, by have := p.isLt; omega⟩ := σ.apply_symm_apply _
    have hv : (σ (σ.symm ⟨p.val, by have := p.isLt; omega⟩)).val = p.val := by rw [hp]
    have hge : 1024 ≤ (σ.symm (⟨p.val, by have := p.isLt; omega⟩ : Fin (2 ^ 15))).val := by
      by_contra hlt
      refine h ⟨(σ.symm (⟨p.val, by have := p.isLt; omega⟩ : Fin (2 ^ 15))).val, by omega⟩ (Fin.ext ?_)
      exact hv
    have := hord (Fin.castLE (by norm_num) i) (σ.symm ⟨p.val, by have := p.isLt; omega⟩) (hreal _ (hcast i)) (by rw [hv]; exact p.isLt)
      (by rw [Fin.le_def]; have := i.isLt; show i.val ≤ _; omega)
    simpa only [hv] using this

/-- The selected locations. -/
def pick : Fin 1024 → Fin 20000 := (picked a0 a2).choose
theorem pick_idx (i : Fin 1024) : shapeCast S1024 (selIdx a0 a2) shapeCasts_S8x128_S1024 (ix1 i) = BitVec.ofNat 32 (pick a0 a2 i).val :=
  (picked a0 a2).choose_spec.1 i
theorem pick_val (i : Fin 1024) : (shapeCast S1024 (selVal a0 a2) shapeCasts_S8x128_S1024 (ix1 i) : EReal) = best a0 a2 (pick a0 a2 i) :=
  (picked a0 a2).choose_spec.2.1 i
theorem pick_sorted (i : Fin 1024) : sortedFrom (before (best a0 a2)) (i.castLE (by norm_num)) = pick a0 a2 i :=
  (before_strict _).sortedFrom_eq_of_prefix (by norm_num) (pick a0 a2) (picked a0 a2).choose_spec.2.2.1 (picked a0 a2).choose_spec.2.2.2.1
    (picked a0 a2).choose_spec.2.2.2.2 i

/-- The selected locations' best scores descend. -/
theorem pick_best_le (i j : Fin 1024) (h : i ≤ j) : best a0 a2 (pick a0 a2 j) ≤ best a0 a2 (pick a0 a2 i) := by
  rcases eq_or_lt_of_le h with h | h
  · rw [h]
  · have := (picked a0 a2).choose_spec.2.2.2.1 i j h
    unfold before at this
    rw [Bool.or_eq_false_iff, decide_eq_false_iff_not, not_lt] at this
    exact this.1

end

/-- A stable sort by an order agrees with the sort by any order that decides the pairs out of their places alike. -/
theorem stableSort_of_later {n : ℕ} (R B : Fin n → Fin n → Bool) (h : ∀ a b, a < b → R b a = B b a) (l : List (Fin n)) (hl : l.Pairwise (· < ·)) :
    stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

theorem sortedFrom_of_later {n : ℕ} (R B : Fin n → Fin n → Bool) (h : ∀ a b, a < b → R b a = B b a) : sortedFrom R = sortedFrom B := by
  have e : sortPositions n R = sortPositions n B := stableSort_of_later R B h _ (List.pairwise_lt_finRange n)
  funext k
  unfold sortedFrom
  rw [List.get_of_eq e]
  rfl

/-- A stable sort of what is already in order moves nothing. -/
theorem sortedFrom_of_sorted {n : ℕ} (R : Fin n → Fin n → Bool) (h : ∀ a b, a < b → R b a = false) (k : Fin n) : sortedFrom R k = k := by
  rw [sortedFrom_of_later R (before fun _ => 0) (fun a b hab => by
    rw [h a b hab]; unfold before; simp [not_lt.mpr (le_of_lt hab)])]
  refine (before_strict _).sortedFrom_eq_of_prefix le_rfl id Function.injective_id (fun i j hij => ?_) (fun i p hp => absurd rfl (hp p)) k
  unfold before; simp [not_lt.mpr (le_of_lt hij)]

theorem cmp_ogt (x y : EReal) : (FloatOps.cmpfTotal (F := Ideal) (φ := .f32) .gt x y == 1#1) = decide (y < x) := by
  rw [Ideal.cmpfTotal_def]
  show (BitVec.ofBool (decide (y < x)) == 1#1) = _
  by_cases h : y < x <;> simp [h]

/-- The positions a selection of the first of a row takes. -/
theorem topK_positions {n k : ℕ} {α : Type} (gt : α → α → BitVec 1) (v : (⟨1, ![n]⟩ : Shape).Idx → α)
    (h : (⟨1, ![n]⟩ : Shape).Slices (fun _ => 0) ⟨1, ![k]⟩) (hk : k ≤ n) (i : Fin k) :
    (Host.topK ⟨1, ![k]⟩ 0 gt v h).2 (ix1 i) = BitVec.ofNat 32 (sortedFrom (fun p q : Fin n => gt (v (ix1 p)) (v (ix1 q)) == 1#1) (i.castLE hk)).val := by
  have hal : ∀ (j : (⟨1, ![n]⟩ : Shape).Idx) (q : Fin n), j.along 0 q = ix1 q := by
    intro j q
    funext a
    obtain rfl : a = 0 := Subsingleton.elim _ _
    rfl
  have hfun : ∀ j : (⟨1, ![n]⟩ : Shape).Idx, (fun p q : Fin n => gt (v (j.along 0 p)) (v (j.along 0 q)) == 1#1)
      = fun p q : Fin n => gt (v (ix1 p)) (v (ix1 q)) == 1#1 := fun j => by
    funext p q; rw [hal, hal]
  have hi : (⟨0 + i.val, by have := i.isLt; omega⟩ : Fin n) = i.castLE hk := Fin.ext (Nat.zero_add _)
  rw [← hi, ← hfun (fun a => ⟨0 + (ix1 i : (⟨1, ![k]⟩ : Shape).Idx) (a.cast rfl), by
    have := i.isLt; obtain rfl : a = 0 := Subsingleton.elim _ _; show 0 + i.val < n; omega⟩)]
  rfl

section
variable (a0 : FVec Ideal S20000x1 .f32) (a2 : FVec Ideal S20000x18 .f32)

/-- The reference's selection is the same. -/
theorem topK_idx (v : FVec Ideal ⟨1, ![20000]⟩ .f32) (hv : ∀ n : Fin 20000, (v (ix1 n) : EReal) = best a0 a2 n)
    (h : (⟨1, ![20000]⟩ : Shape).Slices (fun _ => 0) ⟨1, ![1000]⟩) (i : Fin 1000) :
    (Host.topK ⟨1, ![1000]⟩ 0 (FloatOps.cmpfTotal (F := Ideal) (φ := .f32) .gt) v h).2 (ix1 i) = BitVec.ofNat 32 (pick a0 a2 (i.castLE (by norm_num))).val := by
  rw [topK_positions _ _ _ (by norm_num), ← pick_sorted, sortedFrom_of_later _ (before (best a0 a2))]
  · rfl
  · intro a b hab
    refine (cmp_ogt _ _).trans ?_
    rw [hv, hv]
    unfold before
    rw [decide_eq_false (not_lt.mpr (le_of_lt hab)), Bool.and_false, Bool.or_false]

end

end Cert.Proof
end
-- ==== Proof.Gather.lean ====
/- A gather by one-hot products takes the rows at the indices. -/
module

public import proofs.«01_k».proof.Proof.Pick

@[expose] public section

set_option maxRecDepth 16384

noncomputable section

namespace Cert.Proof

open Cert.KernelIdeal Cert.KernelIdeal.Gen
open Idealize.ShloMosaic

/-- The entry of a one-hot row. -/
theorem hot (p q : ℕ) (hp : p < 2147483648) (hq : q < 2147483648) :
    ((((BitVec.setWidth 32 (BitVec.ofBool (BitVec.ofNat 32 p == BitVec.ofNat 32 q))).toInt : ℝ)) : EReal) = if p = q then 1 else 0 := by
  by_cases h : p = q
  · subst h; simp
  · have hne : BitVec.ofNat 32 p ≠ BitVec.ofNat 32 q := fun e => by
      have := congrArg BitVec.toInt e
      rw [toInt_small _ hp, toInt_small _ hq] at this
      omega
    rw [if_neg h, beq_eq_false_iff_ne.mpr hne]
    simp

/-- A sum against a one-hot row, from an offset. -/
theorem sum_hot {K : ℕ} (off p : ℕ) (f : Fin K → EReal) :
    (∑ k : Fin K, (if p = off + k.val then 1 else 0 : EReal) * f k) = if h : off ≤ p ∧ p < off + K then f ⟨p - off, by omega⟩ else 0 := by
  by_cases h : off ≤ p ∧ p < off + K
  · rw [dif_pos h, Finset.sum_eq_single ⟨p - off, by omega⟩]
    · rw [if_pos (by show p = off + (p - off); omega), one_mul]
    · intro b _ hb
      rw [if_neg, zero_mul]
      intro e
      exact hb (Fin.ext (by show b.val = p - off; omega))
    · intro h'; exact absurd (Finset.mem_univ _) h'
  · rw [dif_neg h]
    refine Finset.sum_eq_zero fun k _ => ?_
    rw [if_neg, zero_mul]
    intro e
    have := k.isLt
    exact h ⟨by omega, by omega⟩

theorem colStep_at (v : IVec S1024x1 32) (x : Vec Ideal S20480x16 .f32) (off : ℕ) (ho : off + 2048 ≤ 20480) (ck : Vec Ideal S2048x16 .f32)
    (acc : FVec Ideal S1024x16 .f32) (r : Fin 1024) (l : Fin 16) (p : Fin 20480) (hv : v (ix2 r 0) = BitVec.ofNat 32 p.val)
    (hc : ∀ q : Fin 2048, ck (ix2 q l) = x (ix2 ⟨off + q.val, by have := q.isLt; omega⟩ l)) :
    (colStep (F := Ideal) v acc (off, ck) (ix2 r l) : EReal)
      = acc (ix2 r l) + if off ≤ p.val ∧ p.val < off + 2048 then x (ix2 p l) else 0 := by
  pointwise [colStep]
  rw [hv]
  congr 1
  have hs := sum_hot off p.val fun k : Fin 2048 => (ck (ix2 k l) : EReal)
  refine (Finset.sum_congr rfl fun k _ => ?_).trans (hs.trans ?_)
  · congr 1
    refine Eq.trans ?_ (hot p.val (off + k.val) (by have := p.isLt; omega) (by have := k.isLt; omega))
    rw [Nat.add_comm off, BitVec.ofNat_add]
    rfl
  · split
    · next h =>
      rw [hc]
      congr 2
      exact Fin.ext (by show off + (p.val - off) = p.val; omega)
    · rfl

theorem rowStep_at (v : IVec S1x1024 32) (x : Vec Ideal S16x20480 .f32) (off : ℕ) (ho : off + 2048 ≤ 20480) (ck : Vec Ideal S16x2048 .f32)
    (acc : FVec Ideal S16x1024 .f32) (r : Fin 1024) (l : Fin 16) (p : Fin 20480) (hv : v (ix2 0 r) = BitVec.ofNat 32 p.val)
    (hc : ∀ q : Fin 2048, ck (ix2 l q) = x (ix2 l ⟨off + q.val, by have := q.isLt; omega⟩)) :
    (rowStep (F := Ideal) v acc (off, ck) (ix2 l r) : EReal)
      = acc (ix2 l r) + if off ≤ p.val ∧ p.val < off + 2048 then x (ix2 l p) else 0 := by
  pointwise [rowStep]
  rw [hv]
  congr 1
  have hs := sum_hot off p.val fun k : Fin 2048 => (ck (ix2 l k) : EReal)
  refine (Finset.sum_congr rfl fun k _ => ?_).trans (hs.trans ?_)
  · rw [mul_comm]
    congr 1
    refine Eq.trans ?_ (hot p.val (off + k.val) (by have := p.isLt; omega) (by have := k.isLt; omega))
    rw [Nat.add_comm off, BitVec.ofNat_add, Bool.beq_comm]
    rfl
  · split
    · next h =>
      rw [hc]
      congr 2
      exact Fin.ext (by show off + (p.val - off) = p.val; omega)
    · rfl

/-- Ten chunks of 2048: just one has the index. -/
theorem one_chunk (p : ℕ) (hp : p < 20480) (y : EReal) (t : ℕ → EReal) (ht : ∀ off, t off = if off ≤ p ∧ p < off + 2048 then y else 0) :
    0 + t 0 + t 2048 + t 4096 + t 6144 + t 8192 + t 10240 + t 12288 + t 14336 + t 16384 + t 18432 = y := by
  simp only [ht]
  have hk : p / 2048 < 10 := by omega
  obtain ⟨k, e⟩ : ∃ k, p / 2048 = k := ⟨_, rfl⟩
  rw [e] at hk
  interval_cases k <;> simp (disch := omega) only [if_pos, if_neg, add_zero, zero_add]

theorem gatherCol_at (v : Vec Ideal S1024x1 .i32) (x : Vec Ideal S20480x16 .f32) (r : Fin 1024) (l : Fin 16) (p : Fin 20480)
    (hv : v (ix2 r 0) = BitVec.ofNat 32 p.val) : (gatherCol (F := Ideal) v (colChunks x) (ix2 r l) : EReal) = x (ix2 p l) := by
  have hv' : shapeCast S1024x1 v shapeCasts_S1024x1_S1024x1 (ix2 r 0) = BitVec.ofNat 32 p.val := by pointwise; exact hv
  have hz : (broadcast S1024x16 (FloatOps.ofBits (F := Ideal) FTy.f32 0#32) (ix2 r l) : EReal) = 0 := Ideal.ofBits_zero_f32
  unfold gatherCol colChunks
  simp only [List.foldl_cons, List.foldl_nil]
  iterate 10 rw [colStep_at _ x _ (by norm_num) _ _ r l p hv' (fun q => by pointwise)]
  rw [hz]
  exact one_chunk p.val p.isLt (x (ix2 p l)) (fun off => if off ≤ p.val ∧ p.val < off + 2048 then x (ix2 p l) else 0) fun _ => rfl

theorem gatherRow_at (v : Vec Ideal S1x1024 .i32) (x : Vec Ideal S16x20480 .f32) (r : Fin 1024) (l : Fin 16) (p : Fin 20480)
    (hv : v (ix2 0 r) = BitVec.ofNat 32 p.val) : (gatherRow (F := Ideal) v (rowChunks x) (ix2 l r) : EReal) = x (ix2 l p) := by
  have hv' : shapeCast S1x1024 v shapeCasts_S1x1024_S1x1024 (ix2 0 r) = BitVec.ofNat 32 p.val := by pointwise; exact hv
  have hz : (broadcast S16x1024 (FloatOps.ofBits (F := Ideal) FTy.f32 0#32) (ix2 l r) : EReal) = 0 := Ideal.ofBits_zero_f32
  unfold gatherRow rowChunks
  simp only [List.foldl_cons, List.foldl_nil]
  iterate 10 rw [rowStep_at _ x _ (by norm_num) _ _ r l p hv' (fun q => by pointwise)]
  rw [hz]
  exact one_chunk p.val p.isLt (x (ix2 l p)) (fun off => if off ≤ p.val ∧ p.val < off + 2048 then x (ix2 l p) else 0) fun _ => rfl

section
variable (a0 : FVec Ideal S20000x1 .f32) (a1 : FVec Ideal S20000x6 .f32) (a2 : FVec Ideal S20000x18 .f32) (a3 : FVec Ideal S20000x3 .f32)

theorem table_dist (n : Fin 20000) (d : Fin 6) (lab : FVec Ideal S157x128 .f32) :
    (table (F := Ideal) a1 a3 lab (ix2 ⟨n.val, by have := n.isLt; omega⟩ ⟨d.val, by have := d.isLt; omega⟩) : EReal) = a1 (ix2 n d) := by
  pointwise [table]
  rw [dif_pos (by have := d.isLt; omega)]
theorem table_point (n : Fin 20000) (d : Fin 3) (lab : FVec Ideal S157x128 .f32) :
    (table (F := Ideal) a1 a3 lab (ix2 ⟨n.val, by have := n.isLt; omega⟩ ⟨6 + d.val, by have := d.isLt; omega⟩) : EReal) = a3 (ix2 n d) := by
  pointwise [table]
  rw [dif_pos (by have := d.isLt; omega)]
theorem table_label (n : Fin 20000) :
    (table (F := Ideal) a1 a3 (selLab a0 a2) (ix2 ⟨n.val, by have := n.isLt; omega⟩ 9) : EReal) = (((firstTop (score a0 a2 n)).val : ℝ) : EReal) := by
  pointwise [table]
  have he : n.val / 128 * 128 + n.val % 128 = n.val := by omega
  have h' : n.val / 128 * 128 + n.val % 128 < 20000 := by rw [he]; exact n.isLt
  have e : (⟨n.val / 128 * 128 + n.val % 128, h'⟩ : Fin 20000) = n := Fin.ext he
  refine (selLab_at a0 a2 ⟨n.val / 128, _⟩ ⟨n.val % 128, _⟩ h').trans ?_
  rw [e]
end

end Cert.Proof
end
-- ==== Proof.Boxes.lean ====
/- The second call's boxes and mask, from the selected locations. -/
module

public import proofs.«01_k».proof.Proof.Gather

@[expose] public section

set_option maxRecDepth 16384

noncomputable section

namespace Cert.Proof

open Cert.KernelIdeal Cert.KernelIdeal.Gen
open Idealize.ShloMosaic

section
variable (a0 : FVec Ideal S20000x1 .f32) (a1 : FVec Ideal S20000x6 .f32) (a2 : FVec Ideal S20000x18 .f32) (a3 : FVec Ideal S20000x3 .f32)

/-- A selected location's lower and upper corner. -/
def lo (i : Fin 1024) (d : Fin 3) : EReal := a3 (ix2 (pick a0 a2 i) d) - Ideal.exp (a1 (ix2 (pick a0 a2 i) ⟨d.val, by have := d.isLt; omega⟩))
def hi (i : Fin 1024) (d : Fin 3) : EReal := a3 (ix2 (pick a0 a2 i) d) + Ideal.exp (a1 (ix2 (pick a0 a2 i) ⟨3 + d.val, by have := d.isLt; omega⟩))

/-- The gathered payload of the selected locations, by column and by row. -/
def gCol : FVec Ideal S1024x16 .f32 := gatherCol (idxCol (selIdx a0 a2)) (colChunks (table a1 a3 (selLab a0 a2)))
def gRow : FVec Ideal S16x1024 .f32 := gatherRow (idxRow (selIdx a0 a2)) (rowChunks (tableT a1 a3 (selLab a0 a2)))

def wide (n : Fin 20000) : Fin 20480 := ⟨n.val, by have := n.isLt; omega⟩

theorem gCol_at (r : Fin 1024) (l : Fin 16) : (gCol a0 a1 a2 a3 (ix2 r l) : EReal) = table (F := Ideal) a1 a3 (selLab a0 a2) (ix2 (wide (pick a0 a2 r)) l) := by
  refine gatherCol_at _ _ r l _ ?_
  unfold idxCol
  pointwise
  refine Eq.trans ?_ (pick_idx a0 a2 r)
  pointwise
theorem gRow_at (r : Fin 1024) (l : Fin 16) : (gRow a0 a1 a2 a3 (ix2 l r) : EReal) = table (F := Ideal) a1 a3 (selLab a0 a2) (ix2 (wide (pick a0 a2 r)) l) := by
  refine (gatherRow_at _ _ r l (wide (pick a0 a2 r)) ?_).trans ?_
  · unfold idxRow
    pointwise
    refine Eq.trans ?_ (pick_idx a0 a2 r)
    pointwise
  · unfold tableT
    pointwise

theorem gCol_dist (r : Fin 1024) (d : ℕ) (h : d < 6) : (gCol a0 a1 a2 a3 (ix2 r ⟨d, by omega⟩) : EReal) = a1 (ix2 (pick a0 a2 r) ⟨d, h⟩) :=
  (gCol_at a0 a1 a2 a3 r _).trans (table_dist a1 a3 _ ⟨d, h⟩ _)
theorem gCol_point (r : Fin 1024) (d : ℕ) (h : d < 3) : (gCol a0 a1 a2 a3 (ix2 r ⟨6 + d, by omega⟩) : EReal) = a3 (ix2 (pick a0 a2 r) ⟨d, h⟩) :=
  (gCol_at a0 a1 a2 a3 r _).trans (table_point a1 a3 _ ⟨d, h⟩ _)
theorem gRow_dist (r : Fin 1024) (d : ℕ) (h : d < 6) : (gRow a0 a1 a2 a3 (ix2 ⟨d, by omega⟩ r) : EReal) = a1 (ix2 (pick a0 a2 r) ⟨d, h⟩) :=
  (gRow_at a0 a1 a2 a3 r _).trans (table_dist a1 a3 _ ⟨d, h⟩ _)
theorem gRow_point (r : Fin 1024) (d : ℕ) (h : d < 3) : (gRow a0 a1 a2 a3 (ix2 ⟨6 + d, by omega⟩ r) : EReal) = a3 (ix2 (pick a0 a2 r) ⟨d, h⟩) :=
  (gRow_at a0 a1 a2 a3 r _).trans (table_point a1 a3 _ ⟨d, h⟩ _)
theorem gRow_label (r : Fin 1024) : (gRow a0 a1 a2 a3 (ix2 9 r) : EReal) = (((firstTop (score a0 a2 (pick a0 a2 r))).val : ℝ) : EReal) :=
  (gRow_at a0 a1 a2 a3 r _).trans (table_label a0 a1 a2 a3 _)

theorem loCol_at (r : Fin 1024) (d : Fin 3) : (loCol (F := Ideal) (gCol a0 a1 a2 a3) (ix2 r d) : EReal) = lo a0 a1 a2 a3 r d := by
  pointwise [loCol]
  exact congrArg₂ (· - ·) (gCol_point a0 a1 a2 a3 r d.val d.isLt) (congrArg Ideal.exp (gCol_dist a0 a1 a2 a3 r d.val (by omega)))
theorem hiCol_at (r : Fin 1024) (d : Fin 3) : (hiCol (F := Ideal) (gCol a0 a1 a2 a3) (ix2 r d) : EReal) = hi a0 a1 a2 a3 r d := by
  pointwise [hiCol]
  exact congrArg₂ (· + ·) (gCol_point a0 a1 a2 a3 r d.val d.isLt) (congrArg Ideal.exp (gCol_dist a0 a1 a2 a3 r (3 + d.val) (by omega)))
theorem loRow_at (r : Fin 1024) (d : Fin 3) : (loRow (F := Ideal) (gRow a0 a1 a2 a3) (ix2 d r) : EReal) = lo a0 a1 a2 a3 r d := by
  pointwise [loRow]
  exact congrArg₂ (· - ·) (gRow_point a0 a1 a2 a3 r d.val d.isLt) (congrArg Ideal.exp (gRow_dist a0 a1 a2 a3 r d.val (by omega)))
theorem hiRow_at (r : Fin 1024) (d : Fin 3) : (hiRow (F := Ideal) (gRow a0 a1 a2 a3) (ix2 d r) : EReal) = hi a0 a1 a2 a3 r d := by
  pointwise [hiRow]
  exact congrArg₂ (· + ·) (gRow_point a0 a1 a2 a3 r d.val d.isLt) (congrArg Ideal.exp (gRow_dist a0 a1 a2 a3 r (3 + d.val) (by omega)))

/-- A box's volume; two boxes' overlap along an axis, intersection and ratio of intersection to union. -/
def vol (i : Fin 1024) : EReal := max 0 (hi a0 a1 a2 a3 i 0 - lo a0 a1 a2 a3 i 0) * max 0 (hi a0 a1 a2 a3 i 1 - lo a0 a1 a2 a3 i 1) * max 0 (hi a0 a1 a2 a3 i 2 - lo a0 a1 a2 a3 i 2)
def side (i j : Fin 1024) (d : Fin 3) : EReal :=
  max 0 (min (hi a0 a1 a2 a3 i d) (hi a0 a1 a2 a3 j d) - max (lo a0 a1 a2 a3 i d) (lo a0 a1 a2 a3 j d))
def meet (i j : Fin 1024) : EReal := side a0 a1 a2 a3 i j 0 * side a0 a1 a2 a3 i j 1 * side a0 a1 a2 a3 i j 2
def ratio (i j : Fin 1024) : EReal :=
  Ideal.div (meet a0 a1 a2 a3 i j) (max (vol a0 a1 a2 a3 i + vol a0 a1 a2 a3 j - meet a0 a1 a2 a3 i j) (Ideal.ofBits .f32 0x358637BD#32))

theorem boxes_at (i : Fin 1024) (d : Fin 6) : (boxes (F := Ideal) (gCol a0 a1 a2 a3) (ix2 i d) : EReal)
    = if h : d.val < 3 then lo a0 a1 a2 a3 i ⟨d.val, h⟩ else hi a0 a1 a2 a3 i ⟨d.val - 3, by have := d.isLt; omega⟩ := by
  pointwise [boxes]
  split
  · exact loCol_at a0 a1 a2 a3 i _
  · exact hiCol_at a0 a1 a2 a3 i _

theorem volCol_at (i : Fin 1024) : (volCol (F := Ideal) (gCol a0 a1 a2 a3) (ix2 i 0) : EReal) = vol a0 a1 a2 a3 i := by
  pointwise [volCol, extCol]
  simp only [hiCol_at, loCol_at]
  rfl
theorem volRow_at (i : Fin 1024) : (volRow (F := Ideal) (gRow a0 a1 a2 a3) (ix2 0 i) : EReal) = vol a0 a1 a2 a3 i := by
  pointwise [volRow, extRow]
  simp only [hiRow_at, loRow_at]
  rfl
theorem overlap_at (r : Fin 8) (d : Fin 3) (i : Fin 128) (j : Fin 1024) :
    (overlap (F := Ideal) (gCol a0 a1 a2 a3) (gRow a0 a1 a2 a3) r d (ix2 i j) : EReal)
      = side a0 a1 a2 a3 ⟨128 * r.val + i.val, by have := r.isLt; have := i.isLt; omega⟩ j d := by
  pointwise [overlap]
  simp only [hiCol_at, loCol_at, hiRow_at, loRow_at]
  rfl
theorem tile_at (r : Fin 8) (i : Fin 128) (j : Fin 1024) :
    (tile (F := Ideal) (gCol a0 a1 a2 a3) (gRow a0 a1 a2 a3) r (ix2 i j) : EReal)
      = if Ideal.ofBits .f32 0x3F000000#32 < ratio a0 a1 a2 a3 ⟨128 * r.val + i.val, by have := r.isLt; have := i.isLt; omega⟩ j then 1 else 0 := by
  pointwise [tile, inter]
  simp only [overlap_at, volCol_at, volRow_at]
  rw [sitofp_word]
  unfold ratio meet
  split
  · next h => rw [decide_eq_true h, show (BitVec.setWidth 32 (BitVec.ofBool true)).toInt = 1 from rfl]; norm_num
  · next h => rw [decide_eq_false h, show (BitVec.setWidth 32 (BitVec.ofBool false)).toInt = 0 from rfl]; norm_num

end

end Cert.Proof
end
-- ==== Proof.Keep.lean ====
/- The suppression loop: a 0/1 vector, one trip for each box in order of score. -/
module

public import proofs.«01_k».proof.Proof.Boxes
public import Idealize.ShloMosaic.Lib.Pipeline.ValueKit

@[expose] public section

set_option maxRecDepth 16384

noncomputable section

namespace Cert.Proof

open Cert.KernelIdeal Cert.KernelIdeal.Gen
open Idealize.ShloMosaic

section
variable (a0 : FVec Ideal S20000x1 .f32) (a1 : FVec Ideal S20000x6 .f32) (a2 : FVec Ideal S20000x18 .f32) (a3 : FVec Ideal S20000x3 .f32)

/-- Two boxes overlap above the threshold. -/
def above (i j : Fin 1024) : Bool := decide (Ideal.ofBits .f32 0x3F000000#32 < ratio a0 a1 a2 a3 i j)

theorem tile_piece (r : Fin 8) (i j : Fin 1024) (x : S128x1024.Idx) (h : 128 * r.val + (x 0).val = i.val) (h' : (x 1).val = j.val) :
    (tile (F := Ideal) (gCol a0 a1 a2 a3) (gRow a0 a1 a2 a3) r x : EReal) = if above a0 a1 a2 a3 i j then 1 else 0 := by
  obtain ⟨y, z, rfl⟩ : ∃ (y : Fin 128) (z : Fin 1024), x = ix2 y z := ⟨x 0, x 1, by funext a; fin_cases a <;> rfl⟩
  have hj : z = j := Fin.ext h'
  have hi : (⟨128 * r.val + y.val, by have := r.isLt; have := y.isLt; omega⟩ : Fin 1024) = i := Fin.ext h
  rw [tile_at, hj, hi]
  unfold above
  simp only [decide_eq_true_eq]

theorem mask_at (i j : Fin 1024) : (mask (F := Ideal) (gCol a0 a1 a2 a3) (gRow a0 a1 a2 a3) (ix2 i j) : EReal) = if above a0 a1 a2 a3 i j then 1 else 0 := by
  unfold mask
  refine View.canon_eq_of_allAt _ _ _ (maskPieces_cover _ _ _) ?_
  have key : ∀ (r : Fin 8) (inb), View.RectAt (Val := Elt Ideal) (e := .f32) (ix2 i j) (Rect.unit (s := S1024x1024) ![128 * r.val, 0] S128x1024.size inb)
      (tile (F := Ideal) (gCol a0 a1 a2 a3) (gRow a0 a1 a2 a3) r) (if above a0 a1 a2 a3 i j then 1 else 0 : EReal) := by
    intro r inb x hx
    refine tile_piece a0 a1 a2 a3 r i j x ?_ ?_
    · have := congrArg (fun y : S1024x1024.Idx => (y 0).val) hx
      rw [Rect.emb_apply] at this
      simpa using this
    · have := congrArg (fun y : S1024x1024.Idx => (y 1).val) hx
      rw [Rect.emb_apply] at this
      simpa using this
  unfold maskPieces
  exact View.allAt_cons _ _ _ (key 7 _) <| View.allAt_cons _ _ _ (key 6 _) <| View.allAt_cons _ _ _ (key 5 _) <| View.allAt_cons _ _ _ (key 4 _) <|
    View.allAt_cons _ _ _ (key 3 _) <| View.allAt_cons _ _ _ (key 2 _) <| View.allAt_cons _ _ _ (key 1 _) <| View.allAt_cons _ _ _ (key 0 _) <| View.allAt_nil _ _

/-- The boxes kept after the first trips. -/
def kept : ℕ → Fin 1024 → Bool
  | 0, _ => true
  | k + 1, j => kept k j && !(if h : k < 1024 then above a0 a1 a2 a3 ⟨k, h⟩ j && decide (k < j.val) && kept k ⟨k, h⟩ else false)

theorem one_sub_one : (1 : EReal) - 1 = 0 := by
  rw [← EReal.coe_one, ← EReal.coe_sub, sub_self, EReal.coe_zero]

theorem iv_eq (k : ℕ) : Scf.iv 0#32 1#32 k = BitVec.ofNat 32 k := by
  unfold Scf.iv
  simp

theorem pay3_at (k : Fin k1_t1_loop.trips) (k' : Fin 1024) (hk : k'.val = k.val) (v : FVec Ideal S1x1024 .f32) (s : Vec Ideal S1x1024 .f32) (j : Fin 1024) :
    (k1_pay3 (F := Ideal) k v s (ix2 0 j) : EReal) = v (ix2 0 j) * (1 - s (ix2 0 j) * v (ix2 0 k') * if k'.val < j.val then 1 else 0) := by
  have hk' := k'.isLt
  have hj := j.isLt
  pointwise [k1_pay3]
  rw [iv_eq, ← hk, sitofp_word]
  have hs : (∑ x : Fin 1024, (Scalar.select (IntOp.cmpi CmpIPredicate.eq (BitVec.ofNat 32 x.val) (BitVec.ofNat 32 k'.val)) (v (ix2 0 x)) 0 : EReal)) = v (ix2 0 k') := by
    rw [Finset.sum_eq_single k']
    · have : IntOp.cmpi CmpIPredicate.eq (BitVec.ofNat 32 k'.val) (BitVec.ofNat 32 k'.val) = 1#1 := by unfold IntOp.cmpi; simp
      rw [this]
      rfl
    · intro b _ hb
      have hne : BitVec.ofNat 32 b.val ≠ BitVec.ofNat 32 k'.val := fun e => by
        have := congrArg BitVec.toInt e
        have hb' := b.isLt
        rw [toInt_small _ (by omega), toInt_small _ (by omega)] at this
        exact hb (Fin.ext (by omega))
      have : IntOp.cmpi CmpIPredicate.eq (BitVec.ofNat 32 b.val) (BitVec.ofNat 32 k'.val) = 0#1 := by
        unfold IntOp.cmpi
        show BitVec.ofBool (BitVec.ofNat 32 b.val == BitVec.ofNat 32 k'.val) = 0#1
        rw [beq_eq_false_iff_ne.mpr hne]
        rfl
      rw [this]
      rfl
    · intro h; exact absurd (Finset.mem_univ _) h
  have hgt : IntOp.cmpi CmpIPredicate.sgt (BitVec.ofNat 32 j.val) (BitVec.ofNat 32 k'.val) = BitVec.ofBool (decide (k'.val < j.val)) := by
    unfold IntOp.cmpi
    congr 1
    show BitVec.slt _ _ = _
    rw [BitVec.slt_eq_decide, toInt_small _ (by omega), toInt_small _ (by omega)]
    simp
  rw [hgt]
  have hb : ∀ b : Bool, (((BitVec.setWidth 32 (BitVec.ofBool b)).toInt : ℝ) : EReal) = if b then 1 else 0 := by
    intro b
    cases b
    · rw [show (BitVec.setWidth 32 (BitVec.ofBool false)).toInt = 0 from rfl]; simp
    · rw [show (BitVec.setWidth 32 (BitVec.ofBool true)).toInt = 1 from rfl]; simp
  rw [hb]
  simp only [Finset.univ_unique, Finset.sum_singleton, decide_eq_true_eq]
  rw [hs]

theorem keepAt_eq (k : ℕ) (hk : k ≤ 1000) (j : Fin 1024) :
    (keepAt (F := Ideal) (mask (gCol a0 a1 a2 a3) (gRow a0 a1 a2 a3)) k (ix2 0 j) : EReal) = if kept a0 a1 a2 a3 k j then 1 else 0 := by
  induction k generalizing j with
  | zero =>
    pointwise [keepAt, k1_pay2]
    rfl
  | succ k ih =>
    have ht : k < k1_t1_loop.trips := by
      have : k1_t1_loop.trips = 1000 := by decide +kernel
      omega
    have hld : (View.ld (mask (F := Ideal) (gCol a0 a1 a2 a3) (gRow a0 a1 a2 a3)) (Rect.unit (s := S1024x1024) (k1_off1 ⟨k, ht⟩) S1x1024.size (k1_off1_inb ⟨k, ht⟩)) (ix2 0 j) : EReal)
        = if above a0 a1 a2 a3 ⟨k, by omega⟩ j then 1 else 0 := by
      rw [← mask_at a0 a1 a2 a3 ⟨k, by omega⟩ j]
      have ho := k1_off1_eq ⟨k, ht⟩
      pointwise
      congr 1
      funext a
      fin_cases a
      · exact Fin.ext (congrFun ho 0)
      · exact Fin.ext ((congrArg (· + j.val) (congrFun ho 1)).trans (Nat.zero_add _))
    rw [keepAt, dif_pos ht, pay3_at _ ⟨k, by omega⟩ rfl, ih (by omega) j, ih (by omega) ⟨k, by omega⟩, hld, kept, dif_pos (by omega)]
    cases kept a0 a1 a2 a3 k j <;> cases kept a0 a1 a2 a3 k ⟨k, by omega⟩ <;> cases above a0 a1 a2 a3 ⟨k, by omega⟩ j <;> by_cases h : k < j.val <;> simp [h, one_sub_one]

/-- The last trips' keep vector. -/
theorem trips_eq : k1_t1_loop.trips = 1000 := by decide +kernel

/-- A place among the kept as a place among the candidates. -/
def cand (i : Fin 1000) : Fin 1024 := i.castLE (by norm_num)

theorem resBoxes_at (i : Fin 1000) (d : Fin 6) : (resBoxes (F := Ideal) a0 a1 a2 a3 (ix2 i d) : EReal)
    = if h : d.val < 3 then lo a0 a1 a2 a3 (cand i) ⟨d.val, h⟩ else hi a0 a1 a2 a3 (cand i) ⟨d.val - 3, by have := d.isLt; omega⟩ := by
  unfold resBoxes outBoxes
  pointwise
  exact boxes_at a0 a1 a2 a3 (cand i) d

theorem resScores_at (i : Fin 1000) : (resScores (F := Ideal) a0 a1 a2 a3 (ix1 i) : EReal)
    = best a0 a2 (pick a0 a2 (cand i)) * if kept a0 a1 a2 a3 1000 (cand i) then 1 else 0 := by
  unfold resScores outScores
  pointwise [k1_pay4]
  rw [trips_eq]
  refine congrArg₂ (· * ·) ?_ (keepAt_eq a0 a1 a2 a3 1000 le_rfl (cand i))
  unfold valRow
  pointwise
  refine Eq.trans ?_ (pick_val a0 a2 (cand i))
  pointwise
  rfl

theorem fptosi_small (n : ℕ) (h : n < 18) : Ideal.fptosi 32 ((n : ℝ) : EReal) = BitVec.ofNat 32 n := by
  unfold Ideal.fptosi
  rw [show Ideal.toIntClamped (-((2 ^ (32 - 1) : ℕ) : ℤ)) (((2 ^ (32 - 1) : ℕ) : ℤ) - 1) ((n : ℝ) : EReal)
      = max (-((2 ^ (32 - 1) : ℕ) : ℤ)) (min (((2 ^ (32 - 1) : ℕ) : ℤ) - 1) (if (0 : ℝ) ≤ (n : ℝ) then ⌊(n : ℝ)⌋ else ⌈(n : ℝ)⌉)) from rfl,
    if_pos (Nat.cast_nonneg n), Int.floor_natCast, min_eq_right (by norm_num; omega), max_eq_right (by norm_num), BitVec.ofInt_natCast]

theorem resLabels_at (i : Fin 1000) : resLabels (F := Ideal) a0 a1 a2 a3 (ix1 i) = BitVec.ofNat 32 (firstTop (score a0 a2 (pick a0 a2 (cand i)))).val := by
  unfold resLabels outLabels
  pointwise [k1_pay5]
  refine Eq.trans ?_ (fptosi_small _ (Fin.isLt _))
  exact congrArg (Ideal.fptosi 32) (gRow_label a0 a1 a2 a3 (cand i))

end

end Cert.Proof
end
-- ==== Proof.RefFrame.lean ====
/-
The reference's run with its counters: all its operations are host operations and it declares no semaphore.
-/
module

public import proofs.«01_k».proof.Proof.Gen.ReferenceIdeal.Run
public import Idealize.ShloMosaic.Lib.Quiescent

@[expose] public section

set_option maxRecDepth 4000

noncomputable section

namespace Cert.Proof

open Idealize.ShloMosaic Idealize.ShloMosaic.TcCoe Idealize.SL.Sem Cert.ReferenceIdeal Cert.ReferenceIdeal.Gen Cert.ReferenceIdeal.Value
open Idealize.ShloMosaic.StableHlo

variable {F : FTy → Type} [FloatOps F] [∀ e, Nonempty (Elt F e)]

abbrev refFinal (m : (ℓ : Loc nD τ sig) → Buf (Elt F) ℓ) (c : Dev nD) : Valuation τ sig (Elt F) :=
  finalContents condOps preI bodyI postI 1000 m c

/-- The reference each operation of `hostOps0_13` writes, in order. -/
abbrev hostOps0_13_W : List (Ref sig .tc) := [main_v120, main_v121]
theorem hostOps0_13_writes : (hostOps0_13 : List (HloOp τ sig (Elt F))).Forall fun op => op.writes ⊆ (hostOps0_13_W.map (Proc.devRef (τ := τ) .tc)).toFinset :=
  StableHlo.forall_writes_sub_of_map rfl

/-- The reference each operation of `hostOps0_14` writes, in order. -/
abbrev hostOps0_14_W : List (Ref sig .tc) :=
  [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_c_4, main_call7_v14, main_v122]
theorem hostOps0_14_writes : (hostOps0_14 : List (HloOp τ sig (Elt F))).Forall fun op => op.writes ⊆ (hostOps0_14_W.map (Proc.devRef (τ := τ) .tc)).toFinset :=
  StableHlo.forall_writes_sub_of_map rfl

/-- Every reference one of the host operations writes. -/
abbrev refWritten : List (Ref sig .tc) :=
  hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ while0Ops0_W ++ condOps_W ++ hostOps0_13_W ++ hostOps0_14_W

theorem afterL_keep {b : DevRef τ sig} : ∀ (items : List (List (HloOp τ sig (Elt F)))) (V : Valuation τ sig (Elt F)),
    (∀ ops ∈ items, ∀ V : Valuation τ sig (Elt F), after ops V b = V b) → afterL items V b = V b
  | [], _, _ => rfl
  | ops :: rest, V, h => by
    rw [afterL_cons, afterL_keep rest _ fun o ho => h o (List.mem_cons_of_mem _ ho)]
    exact h ops List.mem_cons_self V

/-- A buffer none of the operations writes ends as it began. -/
theorem refFinal_keep (m : (ℓ : Loc nD τ sig) → Buf (Elt F) ℓ) (c : Dev nD) (b : Ref sig .tc) (hb : b ∉ refWritten) :
    refFinal m c (Proc.devRef .tc b) = m ((c.tc : Thread nD τ).loc b) := by
  simp only [refWritten, List.mem_append, not_or] at hb
  obtain ⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩ := hb
  have hpre : ∀ ops ∈ (preI : List (List (HloOp τ sig (Elt F)))), ∀ V : Valuation τ sig (Elt F), after ops V (Proc.devRef .tc b) = V (Proc.devRef .tc b) := by
    simp only [List.forall_mem_cons, List.not_mem_nil, false_imp_iff, implies_true, and_true]
    exact ⟨fun V => after_of_writes_sub _ V hostOps0_writes h0, fun V => after_of_writes_sub _ V hostOps0_1_writes h1, fun V => after_of_writes_sub _ V hostOps0_2_writes h2, fun V => after_of_writes_sub _ V hostOps0_3_writes h3, fun V => after_of_writes_sub _ V hostOps0_4_writes h4, fun V => after_of_writes_sub _ V hostOps0_5_writes h5, fun V => after_of_writes_sub _ V hostOps0_6_writes h6, fun V => after_of_writes_sub _ V hostOps0_7_writes h7, fun V => after_of_writes_sub _ V hostOps0_8_writes h8, fun V => after_of_writes_sub _ V hostOps0_9_writes h9, fun V => after_of_writes_sub _ V hostOps0_10_writes h10, fun V => after_of_writes_sub _ V hostOps0_11_writes h11, fun V => after_of_writes_sub _ V hostOps0_12_writes h12⟩
  have hpost : ∀ ops ∈ (postI : List (List (HloOp τ sig (Elt F)))), ∀ V : Valuation τ sig (Elt F), after ops V (Proc.devRef .tc b) = V (Proc.devRef .tc b) := by
    simp only [List.forall_mem_cons, List.not_mem_nil, false_imp_iff, implies_true, and_true]
    exact ⟨fun V => after_of_writes_sub _ V hostOps0_13_writes h15, fun V => after_of_writes_sub _ V hostOps0_14_writes h16⟩
  have hbody : ∀ ops ∈ (bodyI : List (List (HloOp τ sig (Elt F)))), ∀ V : Valuation τ sig (Elt F), after ops V (Proc.devRef .tc b) = V (Proc.devRef .tc b) := by
    simp only [List.forall_mem_cons, List.not_mem_nil, false_imp_iff, implies_true, and_true]
    exact fun V => after_of_writes_sub _ V while0Ops0_writes h13
  have hcond : ∀ V : Valuation τ sig (Elt F), after condOps V (Proc.devRef .tc b) = V (Proc.devRef .tc b) :=
    fun V => after_of_writes_sub _ V condOps_writes h14
  have htrip : ∀ k, atTrip condOps bodyI (entryContents preI m) k c (Proc.devRef .tc b) = m ((c.tc : Thread nD τ).loc b) := by
    intro k
    induction k with
    | zero => exact afterL_keep _ _ hpre
    | succ k ih => rw [atTrip_succ, afterL_keep _ _ hbody, hcond, ih]
  show afterL postI _ _ = _
  rw [afterL_keep _ _ hpost, hcond, htrip]

/-- The reference's run: every buffer at the fold, the counters at zero. -/
theorem ref_run (m : (ℓ : Loc nD τ sig) → Buf (Elt F) ℓ) (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = refFinal m c (Proc.devRef .tc b)) := run_fold m ρ

theorem ref_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h =>
    ⟨fun c => ⟨(h c main_arg0 rfl).trans (refFinal_keep m c _ (by decide +kernel)), (h c main_arg1 rfl).trans (refFinal_keep m c _ (by decide +kernel)),
      (h c main_arg2 rfl).trans (refFinal_keep m c _ (by decide +kernel)), (h c main_arg3 rfl).trans (refFinal_keep m c _ (by decide +kernel))⟩,
     sem_eq_zero_of_no_sems rfl _⟩) (ref_run m ρ)

end Cert.Proof

end
-- ==== Proof.RefRead.lean ====
/- What each stretch of the reference's host operations leaves, as functions of what it reads. -/
module

public import proofs.«01_k».proof.Proof.RefFrame
public import Idealize.ShloMosaic.Lib.StableHlo.RunRead

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Value
open Idealize.ShloMosaic.StableHlo

variable {F : FTy → Type} [FloatOps F] [∀ e, Nonempty (Elt F e)]

/-! ## The arrays -/

/-- All scores: the product of the two logistics. -/
def rScore (a0 : FVec F S20000x1 .f32) (a2 : FVec F S20000x18 .f32) : FVec F S20000x18 .f32 :=
  mulf (Host.divf (broadcastInDim S20000x18 ![] bcast_S_S20000x18 (constant S_ .f32 0x3F800000#32))
      (addf (broadcastInDim S20000x18 ![] bcast_S_S20000x18 (constant S_ .f32 0x3F800000#32)) (Host.exp (Host.negf a2))))
    (broadcastInDim S20000x18 ![0, 1] bcast_S20000x1_S20000x18_0_1
      (Host.divf (broadcastInDim S20000x1 ![] bcast_S_S20000x1 (constant S_ .f32 0x3F800000#32))
        (addf (broadcastInDim S20000x1 ![] bcast_S_S20000x1 (constant S_ .f32 0x3F800000#32)) (Host.exp (Host.negf a0)))))
/-- The best score of every location. -/
def rBest (s : FVec F S20000x18 .f32) : FVec F S20000 .f32 :=
  Host.reduce FloatOps.maximumf s (constant S_ .f32 0xFF800000#32) reducesTo_S20000x18_S20000_d1 h_S_
/-- The locations of the thousand best. -/
def rTop (b : FVec F S20000 .f32) : IVec S1000 32 := (Host.topK S1000 0 (FloatOps.cmpfTotal .gt) b sliceFits_S20000_S1000).2

/-- A list of row numbers with the negative ones counted from the end, as a column. -/
def rWrap (n : BitVec 32) (ix : IVec S1000 32) : IVec S1000x1 32 :=
  broadcastInDim S1000x1 ![0] bcast_S1000_S1000x1_0
    (select (cmpi .slt ix (broadcastInDim S1000 ![] bcast_S_S1000 (constantI S_ 32 0#32)))
      (addi ix (broadcastInDim S1000 ![] bcast_S_S1000 (constantI S_ 32 n))) ix)
/-- Which row numbers lie in the array. -/
def rInside (last : BitVec 32) (w : IVec S1000x1 32) : IVec S1000 1 :=
  Host.reduce IntOp.andi
    (andi (cmpi .sge w (broadcastInDim S1000x1 ![] bcast_S_S1000x1 (constantI S_ 32 0#32)))
      (cmpi .sle w (broadcastInDim S1000x1 ![0, 1] bcast_S1x1_S1000x1_0_1 (broadcastInDim S1x1 ![1] bcast_S1_S1x1_1 (constantI S1 32 last)))))
    (constantI S_ 1 1#1) reducesTo_S1000x1_S1000_d1 h_S_
/-- The selected rows of the three arrays. -/
def rDist (a1 : FVec F S20000x6 .f32) (ix : IVec S1000 32) : FVec F S1000x6 .f32 :=
  select (broadcastInDim S1000x6 ![0] bcast_S1000_S1000x6_0 (rInside 19999#32 (rWrap 20000#32 ix)))
    (Host.gather gather_S20000x6_S1000x1_S1000x6_1_0_n_n_0_1_16 a1 (rWrap 20000#32 ix))
    (broadcastInDim S1000x6 ![] bcast_S_S1000x6 (constant S_ .f32 0x7FC00000#32))
def rRows (s : FVec F S20000x18 .f32) (ix : IVec S1000 32) : FVec F S1000x18 .f32 :=
  select (broadcastInDim S1000x18 ![0] bcast_S1000_S1000x18_0 (rInside 19999#32 (rWrap 20000#32 ix)))
    (Host.gather gather_S20000x18_S1000x1_S1000x18_1_0_n_n_0_1_118 s (rWrap 20000#32 ix))
    (broadcastInDim S1000x18 ![] bcast_S_S1000x18 (constant S_ .f32 0x7FC00000#32))
def rPoint (a3 : FVec F S20000x3 .f32) (ix : IVec S1000 32) : FVec F S1000x3 .f32 :=
  select (broadcastInDim S1000x3 ![0] bcast_S1000_S1000x3_0 (rInside 19999#32 (rWrap 20000#32 ix)))
    (Host.gather gather_S20000x3_S1000x1_S1000x3_1_0_n_n_0_1_13 a3 (rWrap 20000#32 ix))
    (broadcastInDim S1000x3 ![] bcast_S_S1000x3 (constant S_ .f32 0x7FC00000#32))

/-- Column `a` of the points, column `b` of the exponentials. -/
def rP (p : FVec F S1000x3 .f32) (a : ℕ) (h : S1000x3.Slices (![0, a] : Fin 2 → ℕ) S1000x1) : FVec F S1000 .f32 :=
  shapeCast S1000 (extractStridedSlice S1000x1 ![0, a] p h) shapeCasts_S1000x1_S1000
def rE (e : FVec F S1000x6 .f32) (b : ℕ) (h : S1000x6.Slices (![0, b] : Fin 2 → ℕ) S1000x1) : FVec F S1000 .f32 :=
  shapeCast S1000 (extractStridedSlice S1000x1 ![0, b] e h) shapeCasts_S1000x1_S1000
def rCol (v : FVec F S1000 .f32) : FVec F S1000x1 .f32 := broadcastInDim S1000x1 ![0] bcast_S1000_S1000x1_0 v
/-- The boxes: the low corners, then the high corners. -/
def rBox (dist : FVec F S1000x6 .f32) (p : FVec F S1000x3 .f32) : FVec F S1000x6 .f32 :=
  concatenate S1000x6 1
    [⟨S1000x1, rCol (subf (rP p 0 slices_S1000x3_S1000x1_0_0) (rE (Host.exp dist) 0 slices_S1000x6_S1000x1_0_0))⟩,
     ⟨S1000x1, rCol (subf (rP p 1 slices_S1000x3_S1000x1_0_1) (rE (Host.exp dist) 1 slices_S1000x6_S1000x1_0_1))⟩,
     ⟨S1000x1, rCol (subf (rP p 2 slices_S1000x3_S1000x1_0_2) (rE (Host.exp dist) 2 slices_S1000x6_S1000x1_0_2))⟩,
     ⟨S1000x1, rCol (addf (rP p 0 slices_S1000x3_S1000x1_0_0) (rE (Host.exp dist) 3 slices_S1000x6_S1000x1_0_3))⟩,
     ⟨S1000x1, rCol (addf (rP p 1 slices_S1000x3_S1000x1_0_1) (rE (Host.exp dist) 4 slices_S1000x6_S1000x1_0_4))⟩,
     ⟨S1000x1, rCol (addf (rP p 2 slices_S1000x3_S1000x1_0_2) (rE (Host.exp dist) 5 slices_S1000x6_S1000x1_0_5))⟩]
    concatenates_S1000x1_S1000x1_S1000x1_S1000x1_S1000x1_S1000x1_S1000x6_d1
def rTopScore (s : FVec F S1000x18 .f32) : FVec F S1000 .f32 :=
  Host.reduce FloatOps.maximumf s (constant S_ .f32 0xFF800000#32) reducesTo_S1000x18_S1000_d1 h_S_
def rLabel (s : FVec F S1000x18 .f32) : IVec S1000 32 := fun j =>
  (Host.argReduce reducer_argmax_f32_i32 s (iotaInDim S1000x18 32 1) (constant S_ .f32 0xFF800000#32) (constantI S_ 32 0#32) reducesTo_S1000x18_S1000_d1 h_S_ j).2
/-- The order of the candidates by descending best score. -/
def rOrder (b : FVec F S1000 .f32) : IVec S1000 32 := (Host.sort2 S1000 0 comparator_f32_i32_d0 (Host.negf b) (iotaInDim S1000 32 0)).2
def rSortedBox (x : FVec F S1000x6 .f32) (o : IVec S1000 32) : FVec F S1000x6 .f32 :=
  Host.gather gather_S1000x6_S1000x1_S1000x6_1_0_n_n_0_1_16 x (rWrap 1000#32 o)
def rSortedScore (x : FVec F S1000 .f32) (o : IVec S1000 32) : FVec F S1000 .f32 :=
  Host.gather gather_S1000_S1000x1_S1000_n_0_n_n_0_1_1 x (rWrap 1000#32 o)
/-- The overlap of every two boxes along each axis, before it is cut at zero. -/
def rOverlap (x : FVec F S1000x6 .f32) : FVec F S1000x1000x3 .f32 :=
  subf
    (minimumf
      (broadcastInDim S1000x1000x3 ![0, 1, 2] bcast_S1000x1x3_S1000x1000x3_0_1_2
        (extractStridedSlice S1000x1x3 ![0, 0, 3] (broadcastInDim S1000x1x6 ![0, 2] bcast_S1000x6_S1000x1x6_0_2 x) slices_S1000x1x6_S1000x1x3_0_0_3))
      (broadcastInDim S1000x1000x3 ![0, 1, 2] bcast_S1x1000x3_S1000x1000x3_0_1_2
        (extractStridedSlice S1x1000x3 ![0, 0, 3] (broadcastInDim S1x1000x6 ![1, 2] bcast_S1000x6_S1x1000x6_1_2 x) slices_S1x1000x6_S1x1000x3_0_0_3)))
    (maximumf
      (broadcastInDim S1000x1000x3 ![0, 1, 2] bcast_S1000x1x3_S1000x1000x3_0_1_2
        (extractStridedSlice S1000x1x3 ![0, 0, 0] (broadcastInDim S1000x1x6 ![0, 2] bcast_S1000x6_S1000x1x6_0_2 x) slices_S1000x1x6_S1000x1x3_0_0_0))
      (broadcastInDim S1000x1000x3 ![0, 1, 2] bcast_S1x1000x3_S1000x1000x3_0_1_2
        (extractStridedSlice S1x1000x3 ![0, 0, 0] (broadcastInDim S1x1000x6 ![1, 2] bcast_S1000x6_S1x1000x6_1_2 x) slices_S1x1000x6_S1x1000x3_0_0_0)))
def rCut3 (z : FVec F S_ .f32) (v : FVec F S1000x1000x3 .f32) : FVec F S1000x1000x3 .f32 :=
  maximumf (broadcastInDim S1000x1000x3 ![] bcast_S_S1000x1000x3 (id z)) v
def rMeet (v : FVec F S1000x1000x3 .f32) : FVec F S1000x1000 .f32 :=
  mulf (mulf (shapeCast S1000x1000 (extractStridedSlice S1000x1000x1 ![0, 0, 0] v slices_S1000x1000x3_S1000x1000x1_0_0_0) shapeCasts_S1000x1000x1_S1000x1000)
      (shapeCast S1000x1000 (extractStridedSlice S1000x1000x1 ![0, 0, 1] v slices_S1000x1000x3_S1000x1000x1_0_0_1) shapeCasts_S1000x1000x1_S1000x1000))
    (shapeCast S1000x1000 (extractStridedSlice S1000x1000x1 ![0, 0, 2] v slices_S1000x1000x3_S1000x1000x1_0_0_2) shapeCasts_S1000x1000x1_S1000x1000)
def rSides (x : FVec F S1000x6 .f32) : FVec F S1000x3 .f32 :=
  subf (extractStridedSlice S1000x3 ![0, 3] x slices_S1000x6_S1000x3_0_3) (extractStridedSlice S1000x3 ![0, 0] x slices_S1000x6_S1000x3_0_0)
def rCut2 (z : FVec F S_ .f32) (v : FVec F S1000x3 .f32) : FVec F S1000x3 .f32 :=
  maximumf (broadcastInDim S1000x3 ![] bcast_S_S1000x3 (id z)) v
def rVol (v : FVec F S1000x3 .f32) : FVec F S1000 .f32 :=
  mulf (mulf (rP v 0 slices_S1000x3_S1000x1_0_0) (rP v 1 slices_S1000x3_S1000x1_0_1)) (rP v 2 slices_S1000x3_S1000x1_0_2)
def rRatio (meet : FVec F S1000x1000 .f32) (vol : FVec F S1000 .f32) : FVec F S1000x1000 .f32 :=
  Host.divf meet
    (maximumf
      (subf (addf (broadcastInDim S1000x1000 ![0, 1] bcast_S1000x1_S1000x1000_0_1 (broadcastInDim S1000x1 ![0] bcast_S1000_S1000x1_0 vol))
          (broadcastInDim S1000x1000 ![0, 1] bcast_S1x1000_S1000x1000_0_1 (broadcastInDim S1x1000 ![1] bcast_S1000_S1x1000_1 vol))) meet)
      (broadcastInDim S1000x1000 ![] bcast_S_S1000x1000 (constant S_ .f32 0x358637BD#32)))
def rKeptScore (x : FVec F S1000 .f32) (k : IVec S1000 1) : FVec F S1000 .f32 := mulf x (uitofp .f32 k)
def rSortedLabel (l : IVec S1000 32) (o : IVec S1000 32) : IVec S1000 32 :=
  select (rInside 999#32 (rWrap 1000#32 o)) (Host.gather gather_S1000_S1000x1_S1000_n_0_n_n_0_1_1 l (rWrap 1000#32 o))
    (broadcastInDim S1000 ![] bcast_S_S1000 (constantI S_ 32 2147483648#32))

/-! ## The stretches -/

variable (V : Valuation τ sig (Elt F))

theorem h0_score : after hostOps0 V (Proc.devRef .tc main_v13) = rScore (V (Proc.devRef .tc main_arg0)) (V (Proc.devRef .tc main_arg2)) := by
  unfold rScore; after_reads_simp
theorem h0_top : after hostOps0 V (Proc.devRef .tc main_indices) = rTop (rBest (rScore (V (Proc.devRef .tc main_arg0)) (V (Proc.devRef .tc main_arg2)))) := by
  unfold rTop rBest rScore; after_reads_simp
theorem h1_dist : after hostOps0_1 V (Proc.devRef .tc main_v15) = rDist (V (Proc.devRef .tc main_arg1)) (V (Proc.devRef .tc main_indices)) := by
  unfold rDist rInside rWrap; after_reads_simp; rfl
theorem h2_rows : after hostOps0_2 V (Proc.devRef .tc main_v16) = rRows (V (Proc.devRef .tc main_v13)) (V (Proc.devRef .tc main_indices)) := by
  unfold rRows rInside rWrap; after_reads_simp; rfl
theorem h3_point : after hostOps0_3 V (Proc.devRef .tc main_v17) = rPoint (V (Proc.devRef .tc main_arg3)) (V (Proc.devRef .tc main_indices)) := by
  unfold rPoint rInside rWrap; after_reads_simp; rfl
theorem h4_box : after hostOps0_4 V (Proc.devRef .tc main_v55) = rBox (V (Proc.devRef .tc main_v15)) (V (Proc.devRef .tc main_v17)) := by
  unfold rBox rCol rP rE; after_reads_simp; rfl
theorem h4_best : after hostOps0_4 V (Proc.devRef .tc main_v56) = rTopScore (V (Proc.devRef .tc main_v16)) := by
  unfold rTopScore; after_reads_simp
theorem h5_label : after hostOps0_5 V (Proc.devRef .tc main_v57) = rLabel (V (Proc.devRef .tc main_v16)) := by
  unfold rLabel; after_reads_simp; rfl
theorem h7_order : after hostOps0_7 (after hostOps0_6 V) (Proc.devRef .tc main_v59) = rOrder (V (Proc.devRef .tc main_v56)) := by
  unfold rOrder; after_reads_simp; rfl
theorem h8_box : after hostOps0_8 V (Proc.devRef .tc main_v66) = rSortedBox (V (Proc.devRef .tc main_v55)) (V (Proc.devRef .tc main_v59)) := by
  unfold rSortedBox rWrap; after_reads_simp
theorem h8_score : after hostOps0_8 V (Proc.devRef .tc main_v73) = rSortedScore (V (Proc.devRef .tc main_v56)) (V (Proc.devRef .tc main_v59)) := by
  unfold rSortedScore rWrap; after_reads_simp
theorem h8_overlap : after hostOps0_8 V (Proc.devRef .tc main_v86) = rOverlap (rSortedBox (V (Proc.devRef .tc main_v55)) (V (Proc.devRef .tc main_v59))) := by
  unfold rOverlap rSortedBox rWrap; after_reads_simp
theorem h8_zero : after hostOps0_8 V (Proc.devRef .tc main_cst_8) = constant S_ .f32 0x00000000#32 := by
  after_reads_simp
theorem h9_cut : after hostOps0_9 V (Proc.devRef .tc main_v87) = rCut3 (V (Proc.devRef .tc main_cst_8)) (V (Proc.devRef .tc main_v86)) := by
  unfold rCut3; after_reads_simp; rfl
theorem h10_meet : after hostOps0_10 V (Proc.devRef .tc main_v95) = rMeet (V (Proc.devRef .tc main_v87)) := by
  unfold rMeet; after_reads_simp; rfl
theorem h10_sides : after hostOps0_10 V (Proc.devRef .tc main_v98) = rSides (V (Proc.devRef .tc main_v66)) := by
  unfold rSides; after_reads_simp
theorem h10_zero : after hostOps0_10 V (Proc.devRef .tc main_cst_9) = constant S_ .f32 0x00000000#32 := by
  after_reads_simp
theorem h11_cut : after hostOps0_11 V (Proc.devRef .tc main_v99) = rCut2 (V (Proc.devRef .tc main_cst_9)) (V (Proc.devRef .tc main_v98)) := by
  unfold rCut2; after_reads_simp; rfl
theorem h12_ratio : after hostOps0_12 V (Proc.devRef .tc main_v119_0) = rRatio (V (Proc.devRef .tc main_v95)) (rVol (V (Proc.devRef .tc main_v99))) := by
  unfold rRatio rVol rP; after_reads_simp; rfl
theorem h12_iota : after hostOps0_12 V (Proc.devRef .tc main_v119_1) = iotaInDim S1000 32 0 := by
  after_reads_simp; rfl
theorem h12_index : after hostOps0_12 V (Proc.devRef .tc main_v119_3) = constantI S_ 32 0#32 := by
  after_reads_simp; rfl
theorem h12_keep : after hostOps0_12 V (Proc.devRef .tc main_v119_4) = broadcastInDim S1000 ![] bcast_S_S1000 (constantI S_ 1 1#1) := by
  after_reads_simp; rfl
theorem h13_score : after hostOps0_13 V (Proc.devRef .tc main_v121) = rKeptScore (V (Proc.devRef .tc main_v73)) (V (Proc.devRef .tc main_v119_4)) := by
  unfold rKeptScore; after_reads_simp
theorem h14_label : after hostOps0_14 V (Proc.devRef .tc main_v122) = rSortedLabel (V (Proc.devRef .tc main_v57)) (V (Proc.devRef .tc main_v59)) := by
  unfold rSortedLabel rInside rWrap; after_reads_simp; rfl

end Cert.Proof

end
-- ==== Proof.RefVals.lean ====
/- The reference's arrays read at an index: the selected rows, the best scores, the labels and the order. -/
module

public import proofs.«01_k».proof.Proof.RefRead
public import proofs.«01_k».proof.Proof.Keep
public import Idealize.ShloMosaic.Lib.Routing.OpsSearch
public import Idealize.ShloMosaic.Lib.Pointwise

@[expose] public section

set_option maxRecDepth 16384

noncomputable section

namespace Cert.Proof

open Idealize.ShloMosaic Cert.ReferenceIdeal Cert.ReferenceIdeal.Gen

/-! ## The row numbers -/

theorem slt_zero (k : ℕ) (hk : k < 2147483648) : IntOp.cmpi .slt (BitVec.ofNat 32 k) 0#32 = 0#1 := by
  unfold IntOp.cmpi
  show BitVec.ofBool (BitVec.slt _ _) = _
  rw [BitVec.slt_eq_decide, toInt_small _ hk, show (0#32 : BitVec 32).toInt = 0 from rfl, decide_eq_false (by omega)]
  rfl
theorem sge_zero (k : ℕ) (hk : k < 2147483648) : IntOp.cmpi .sge (BitVec.ofNat 32 k) 0#32 = 1#1 := by
  unfold IntOp.cmpi
  show BitVec.ofBool (BitVec.sle _ _) = _
  rw [BitVec.sle_eq_decide, toInt_small _ hk, show (0#32 : BitVec 32).toInt = 0 from rfl, decide_eq_true (by omega)]
  rfl
theorem sle_last (k l : ℕ) (hkl : k ≤ l) (hl : l < 2147483648) : IntOp.cmpi .sle (BitVec.ofNat 32 k) (BitVec.ofNat 32 l) = 1#1 := by
  unfold IntOp.cmpi
  show BitVec.ofBool (BitVec.sle _ _) = _
  rw [BitVec.sle_eq_decide, toInt_small _ (by omega), toInt_small _ hl, decide_eq_true (by omega)]
  rfl

theorem rWrap_at (n : BitVec 32) (ix : IVec S1000 32) (i : Fin 1000) (k : ℕ) (hk : k < 2147483648) (h : ix (ix1 i) = BitVec.ofNat 32 k) :
    rWrap n ix (ix2 i 0) = BitVec.ofNat 32 k := by
  pointwise [rWrap]
  rw [h, slt_zero k hk]
  rfl
theorem rInside_at (l : ℕ) (hl : l < 2147483648) (w : IVec S1000x1 32) (i : Fin 1000) (k : ℕ) (hk : k ≤ l) (h : w (ix2 i 0) = BitVec.ofNat 32 k) :
    rInside (BitVec.ofNat 32 l) w (ix1 i) = 1#1 := by
  pointwise [rInside]
  simp only [Finset.univ_unique, Finset.fold_singleton, Fin.default_eq_zero, Fin.isValue]
  rw [h, sge_zero k (by omega), sle_last k l hk hl]
  rfl

section
variable (ix : IVec S1000 32) (i : Fin 1000) (p : Fin 20000) (h : ix (ix1 i) = BitVec.ofNat 32 p.val)
include h

theorem rDist_at (a1 : FVec Ideal S20000x6 .f32) (d : Fin 6) : (rDist a1 ix (ix2 i d) : EReal) = a1 (ix2 p d) := by
  have hp := p.isLt
  have hw := rWrap_at 20000#32 ix i p.val (by omega) h
  pointwise [rDist]
  rw [rInside_at 19999 (by norm_num) _ i p.val (by omega) hw]
  exact Routing.gather_row _ rfl rfl rfl rfl rfl a1 _ i d p hw (by norm_num)
theorem rRows_at (s : FVec Ideal S20000x18 .f32) (d : Fin 18) : (rRows s ix (ix2 i d) : EReal) = s (ix2 p d) := by
  have hp := p.isLt
  have hw := rWrap_at 20000#32 ix i p.val (by omega) h
  pointwise [rRows]
  rw [rInside_at 19999 (by norm_num) _ i p.val (by omega) hw]
  exact Routing.gather_row _ rfl rfl rfl rfl rfl s _ i d p hw (by norm_num)
theorem rPoint_at (a3 : FVec Ideal S20000x3 .f32) (d : Fin 3) : (rPoint a3 ix (ix2 i d) : EReal) = a3 (ix2 p d) := by
  have hp := p.isLt
  have hw := rWrap_at 20000#32 ix i p.val (by omega) h
  pointwise [rPoint]
  rw [rInside_at 19999 (by norm_num) _ i p.val (by omega) hw]
  exact Routing.gather_row _ rfl rfl rfl rfl rfl a3 _ i d p hw (by norm_num)
end

/-! ## The scores -/

section
variable (a0 : FVec Ideal S20000x1 .f32) (a2 : FVec Ideal S20000x18 .f32)

theorem rScore_at (n : Fin 20000) (c : Fin 18) : (rScore (F := Ideal) a0 a2 (ix2 n c) : EReal) = score a0 a2 n c := by
  pointwise [rScore]
  rfl
theorem rBest_at (n : Fin 20000) : (rBest (F := Ideal) (rScore a0 a2) (ix1 n) : EReal) = best a0 a2 n := by
  pointwise [rBest]
  simp only [ofBits_bot, rScore_at]
  rfl
/-- The locations the reference selects. -/
abbrev top : IVec S1000 32 := rTop (rBest (F := Ideal) (rScore a0 a2))
theorem top_at (i : Fin 1000) : top a0 a2 (ix1 i) = BitVec.ofNat 32 (pick a0 a2 (cand i)).val :=
  topK_idx a0 a2 _ (rBest_at a0 a2) sliceFits_S20000_S1000 i
abbrev rows : FVec Ideal S1000x18 .f32 := rRows (rScore a0 a2) (top a0 a2)
theorem rows_at (i : Fin 1000) (c : Fin 18) : (rows a0 a2 (ix2 i c) : EReal) = score a0 a2 (pick a0 a2 (cand i)) c :=
  (rRows_at _ i _ (top_at a0 a2 i) _ c).trans (rScore_at a0 a2 _ c)
theorem topScore_at (i : Fin 1000) : (rTopScore (rows a0 a2) (ix1 i) : EReal) = best a0 a2 (pick a0 a2 (cand i)) := by
  unfold rTopScore
  pointwise
  simp only [ofBits_bot, rows_at]
  rfl
end

/-! ## The label -/

/-- What the search for the greatest keeps of the pairs it has seen: a greatest value, at the least word of those with it. -/
structure Greatest (l : List (EReal × BitVec 32)) (r : EReal × BitVec 32) : Prop where
  mem : r ∈ l
  le : ∀ p ∈ l, p.1 ≤ r.1
  least : ∀ p ∈ l, p.1 = r.1 → r.2.toInt ≤ p.2.toInt

theorem reducer_eq (a b : EReal × BitVec 32) : reducer_argmax_f32_i32 (F := Ideal) a b
    = (if b.1 < a.1 then a.1 else b.1, if b.1 < a.1 ∨ (a.1 = b.1 ∧ a.2.toInt < b.2.toInt) then a.2 else b.2) := by
  unfold reducer_argmax_f32_i32
  simp only [Ideal.cmpf_def, Ideal.cmp, IntOp.cmpi, IntOp.ori, IntOp.andi, Scalar.select, BitVec.slt_eq_decide]
  by_cases h : b.1 < a.1 <;> by_cases h' : a.1 = b.1 <;> by_cases h'' : a.2.toInt < b.2.toInt <;> simp [h, h', h'']

theorem greatest_step (l : List (EReal × BitVec 32)) (r b : EReal × BitVec 32) (h : Greatest l r) :
    Greatest (l ++ [b]) (reducer_argmax_f32_i32 (F := Ideal) r b) := by
  rw [reducer_eq]
  obtain ⟨hm, hle, hl⟩ := h
  rcases lt_trichotomy b.1 r.1 with hlt | heq | hgt
  · rw [if_pos hlt, if_pos (Or.inl hlt)]
    refine ⟨List.mem_append_left _ hm, fun p hp => ?_, fun p hp e => ?_⟩
    · rcases List.mem_append.mp hp with hp | hp
      · exact hle p hp
      · rw [List.mem_singleton.mp hp]; exact hlt.le
    · rcases List.mem_append.mp hp with hp | hp
      · exact hl p hp e
      · rw [List.mem_singleton.mp hp] at e; exact absurd e hlt.ne
  · rw [if_neg (by rw [heq]; exact lt_irrefl _)]
    by_cases h' : r.2.toInt < b.2.toInt
    · rw [if_pos (Or.inr ⟨heq.symm, h'⟩), heq]
      refine ⟨List.mem_append_left _ hm, fun p hp => ?_, fun p hp e => ?_⟩
      · rcases List.mem_append.mp hp with hp | hp
        · exact hle p hp
        · rw [List.mem_singleton.mp hp]; exact heq.le
      · rcases List.mem_append.mp hp with hp | hp
        · exact hl p hp e
        · rw [List.mem_singleton.mp hp]; exact h'.le
    · rw [if_neg (by rintro (h | h); exacts [absurd h (by rw [heq]; exact lt_irrefl _), h' h.2])]
      refine ⟨List.mem_append_right _ (List.mem_singleton.mpr rfl), fun p hp => ?_, fun p hp e => ?_⟩
      · rcases List.mem_append.mp hp with hp | hp
        · exact (hle p hp).trans heq.ge
        · rw [List.mem_singleton.mp hp]
      · rcases List.mem_append.mp hp with hp | hp
        · exact le_trans (not_lt.mp h') (hl p hp (e.trans heq))
        · rw [List.mem_singleton.mp hp]
  · rw [if_neg (not_lt.mpr hgt.le), if_neg (by rintro (h | h); exacts [absurd h (not_lt.mpr hgt.le), hgt.ne h.1])]
    refine ⟨List.mem_append_right _ (List.mem_singleton.mpr rfl), fun p hp => ?_, fun p hp e => ?_⟩
    · rcases List.mem_append.mp hp with hp | hp
      · exact (hle p hp).trans hgt.le
      · rw [List.mem_singleton.mp hp]
    · rcases List.mem_append.mp hp with hp | hp
      · exact absurd (e ▸ hle p hp) (not_le.mpr hgt)
      · rw [List.mem_singleton.mp hp]

theorem greatest_foldl : ∀ (l l₀ : List (EReal × BitVec 32)) (r : EReal × BitVec 32), Greatest l₀ r →
    Greatest (l₀ ++ l) (l.foldl (reducer_argmax_f32_i32 (F := Ideal)) r)
  | [], l₀, r, h => by rw [List.append_nil]; exact h
  | b :: l, l₀, r, h => by
    rw [List.foldl_cons, show l₀ ++ b :: l = (l₀ ++ [b]) ++ l by simp]
    exact greatest_foldl l _ _ (greatest_step l₀ r b h)

theorem label_of_greatest (f : Fin 18 → EReal) (l : List (EReal × BitVec 32)) (r : EReal × BitVec 32)
    (hmem : ∀ p, p ∈ l ↔ p = (⊥, 0#32) ∨ ∃ c : Fin 18, p = (f c, BitVec.ofNat 32 c.val)) (h : Greatest l r) :
    r.2 = BitVec.ofNat 32 (firstTop f).val := by
  have hof : ∀ c : Fin 18, (BitVec.ofNat 32 c.val).toInt = c.val := by decide
  have htop : r.1 = top18 f := by
    apply le_antisymm
    · rcases (hmem r).mp h.mem with e | ⟨c, e⟩
      · rw [e]; exact bot_le
      · rw [e]; exact le_top18 f c
    · rw [← firstTop_top f]
      exact h.le (f (firstTop f), _) ((hmem _).mpr (Or.inr ⟨firstTop f, rfl⟩))
  have hle : r.2.toInt ≤ (firstTop f).val := by
    rw [← hof]
    exact h.least (f (firstTop f), _) ((hmem _).mpr (Or.inr ⟨firstTop f, rfl⟩)) ((firstTop_top f).trans htop.symm)
  have hge : ∀ c : Fin 18, f c = top18 f → (firstTop f).val ≤ c.val := fun c hc => by
    by_contra hlt
    exact firstTop_first f c (by rw [Fin.lt_def]; omega) hc
  apply BitVec.eq_of_toInt_eq
  rw [hof]
  apply le_antisymm hle
  rcases (hmem r).mp h.mem with e | ⟨c, e⟩
  · have h0 : f 0 = top18 f := by
      have : top18 f = ⊥ := by rw [← htop, e]
      exact le_antisymm (le_top18 f 0) (by rw [this]; exact bot_le)
    have := hge 0 h0
    rw [e, show ((⊥ : EReal), (0#32 : BitVec 32)).2.toInt = 0 from rfl]
    have h00 : ((0 : Fin 18).val) = 0 := rfl
    omega
  · have := hge c (by rw [← htop, e])
    rw [e]
    show ((firstTop f).val : ℤ) ≤ (BitVec.ofNat 32 c.val).toInt
    rw [hof]
    omega

theorem drop_row (h : (⟨2, ![1000, 18]⟩ : Shape).ReducesTo [1] ⟨1, ![1000]⟩) (i : Fin 1000) (x : (⟨2, ![1000, 18]⟩ : Shape).Idx) :
    h.drop x = ix1 i ↔ (x 0).val = i.val := by
  have e : (h.drop x 0).val = (x 0).val := h.drop_apply_val_of_eq x 0 0 (by decide)
  constructor
  · intro hx
    rw [← e, hx]
    rfl
  · intro hx
    funext b
    obtain rfl : b = 0 := Subsingleton.elim _ _
    exact Fin.ext (e.trans hx)

theorem rLabel_at (s : FVec Ideal S1000x18 .f32) (i : Fin 1000) : rLabel s (ix1 i) = BitVec.ofNat 32 (firstTop fun c => s (ix2 i c)).val := by
  unfold rLabel
  rw [Ideal.argReduce_eq_reduce2, Host.reduce2_eq_foldl_fiber]
  refine label_of_greatest (fun c => s (ix2 i c)) _ _ ?_
    (greatest_foldl _ [(⊥, 0#32)] _ ⟨?_, ?_, ?_⟩)
  · intro p
    rw [List.singleton_append, List.mem_cons]
    refine or_congr Iff.rfl ?_
    unfold Host.argReduceFiber
    simp only [List.mem_map, List.mem_filter, List.mem_finRange, true_and, decide_eq_true_eq, drop_row]
    constructor
    · rintro ⟨n, hn, rfl⟩
      refine ⟨Shape.rowMajor _ |>.symm n 1, ?_⟩
      have e : (Shape.rowMajor S1000x18).symm n = ix2 i ((Shape.rowMajor S1000x18).symm n 1) := by
        funext a
        fin_cases a
        · exact Fin.ext hn
        · rfl
      rw [e]
      rfl
    · rintro ⟨c, rfl⟩
      refine ⟨Shape.rowMajor _ (ix2 i c), ?_, ?_⟩
      · rw [Equiv.symm_apply_apply]; rfl
      · rw [Equiv.symm_apply_apply]; rfl
  · exact List.mem_singleton.mpr (Prod.ext ofBits_bot rfl)
  · intro p hp; rw [List.mem_singleton.mp hp]; exact bot_le
  · intro p hp _
    rw [List.mem_singleton.mp hp]
    exact le_refl _

/-! ## The order -/

theorem order_positions {n : ℕ} {α : Type} (cmp : α × BitVec 32 → α × BitVec 32 → BitVec 1) (v : (⟨1, ![n]⟩ : Shape).Idx → α) (y : (⟨1, ![n]⟩ : Shape).Idx → BitVec 32) (i : Fin n) :
    (Host.sort2 ⟨1, ![n]⟩ 0 cmp v y).2 (ix1 i)
      = y (ix1 (sortedFrom (fun p q : Fin n => cmp (v (ix1 p), y (ix1 p)) (v (ix1 q), y (ix1 q)) == 1#1) i)) := by
  have hal : ∀ (j : (⟨1, ![n]⟩ : Shape).Idx) (q : Fin n), j.along 0 q = ix1 q := by
    intro j q
    funext a
    obtain rfl : a = 0 := Subsingleton.elim _ _
    rfl
  unfold Host.sort2
  rw [dif_pos (show 0 < (⟨1, ![n]⟩ : Shape).rank from Nat.one_pos)]
  have e : ∀ (j : (⟨1, ![n]⟩ : Shape).Idx), (fun p q : Fin n => cmp (v (j.along 0 p), y (j.along 0 p)) (v (j.along 0 q), y (j.along 0 q)) == 1#1)
      = fun p q : Fin n => cmp (v (ix1 p), y (ix1 p)) (v (ix1 q), y (ix1 q)) == 1#1 := fun j => by
    funext p q; rw [hal, hal]
  rw [← e (ix1 i)]
  exact congrArg y (hal (ix1 i) _)

theorem comparator_eq (a b : EReal) (x y : BitVec 32) : (comparator_f32_i32_d0 (F := Ideal) (a, x) (b, y) == 1#1) = decide (a < b) := by
  unfold comparator_f32_i32_d0
  have hz : (FloatOps.ofBits (F := Ideal) .f32 0x00000000#32 : EReal) = 0 := Ideal.ofBits_zero_f32
  have hs : ∀ u w : EReal, (Scalar.select (FloatOps.cmpf (F := Ideal) (φ := .f32) .une u u)  w
      (Scalar.select (FloatOps.cmpf (F := Ideal) (φ := .f32) .oeq u (FloatOps.ofBits (F := Ideal) .f32 0x00000000#32)) (FloatOps.ofBits (F := Ideal) .f32 0x00000000#32) u) : EReal) = u := by
    intro u w
    rw [hz]
    simp only [Ideal.cmpf_def, Ideal.cmp, Scalar.select]
    by_cases h : u = 0 <;> simp [h]
  show (FloatOps.cmpfTotal (F := Ideal) (φ := .f32) .lt _ _ == 1#1) = _
  rw [Ideal.cmpfTotal_def]
  refine (congrArg₂ (fun u w : EReal => Ideal.cmp CmpDirection.lt.ordered u w == 1#1) (hs a _) (hs b _)).trans ?_
  show (BitVec.ofBool (decide (a < b)) == 1#1) = _
  by_cases h : a < b <;> simp [h]

theorem rOrder_at (b : FVec Ideal S1000 .f32) (hb : ∀ i j : Fin 1000, i ≤ j → (b (ix1 j) : EReal) ≤ b (ix1 i)) (i : Fin 1000) :
    rOrder b (ix1 i) = BitVec.ofNat 32 i.val := by
  unfold rOrder
  refine (order_positions _ _ _ i).trans ?_
  rw [sortedFrom_of_sorted]
  · rfl
  · intro p q hpq
    refine (comparator_eq _ _ _ _).trans (decide_eq_false (not_lt.mpr ?_))
    exact EReal.neg_le_neg_iff.mpr (hb p q hpq.le)

section
variable (a0 : FVec Ideal S20000x1 .f32) (a2 : FVec Ideal S20000x18 .f32)
abbrev order : IVec S1000 32 := rOrder (rTopScore (rows a0 a2))
theorem order_at (i : Fin 1000) : order a0 a2 (ix1 i) = BitVec.ofNat 32 i.val :=
  rOrder_at _ (fun i j h => by
    rw [topScore_at, topScore_at]
    exact pick_best_le a0 a2 _ _ h) i
theorem rSortedBox_at (x : FVec Ideal S1000x6 .f32) (i : Fin 1000) (d : Fin 6) : (rSortedBox x (order a0 a2) (ix2 i d) : EReal) = x (ix2 i d) := by
  have hi := i.isLt
  exact Routing.gather_row _ rfl rfl rfl rfl rfl x _ i d i (rWrap_at 1000#32 _ i i.val (by omega) (order_at a0 a2 i)) (by norm_num)
theorem rSortedScore_at (x : FVec Ideal S1000 .f32) (i : Fin 1000) : (rSortedScore x (order a0 a2) (ix1 i) : EReal) = x (ix1 i) := by
  have hi := i.isLt
  exact Routing.take_ap _ rfl rfl rfl rfl x _ i i.isLt (by omega) (rWrap_at 1000#32 _ i i.val (by omega) (order_at a0 a2 i))
theorem rSortedLabel_at (l : IVec S1000 32) (i : Fin 1000) : rSortedLabel l (order a0 a2) (ix1 i) = l (ix1 i) := by
  have hi := i.isLt
  have hw := rWrap_at 1000#32 _ i i.val (by omega) (order_at a0 a2 i)
  pointwise [rSortedLabel]
  rw [rInside_at 999 (by norm_num) _ i i.val (by omega) hw]
  exact Routing.take_ap _ rfl rfl rfl rfl l _ i i.isLt (by omega) hw
theorem label_at (i : Fin 1000) : rSortedLabel (rLabel (rows a0 a2)) (order a0 a2) (ix1 i) = BitVec.ofNat 32 (firstTop (score a0 a2 (pick a0 a2 (cand i)))).val := by
  rw [rSortedLabel_at, rLabel_at]
  simp only [rows_at]
end

end Cert.Proof

end
-- ==== Proof.RefRatio.lean ====
/- The reference's boxes and ratios read at an index. -/
module

public import proofs.«01_k».proof.Proof.RefVals

@[expose] public section

set_option maxRecDepth 16384

noncomputable section

namespace Cert.Proof

open Idealize.ShloMosaic Cert.ReferenceIdeal Cert.ReferenceIdeal.Gen

variable (a0 : FVec Ideal S20000x1 .f32) (a1 : FVec Ideal S20000x6 .f32) (a2 : FVec Ideal S20000x18 .f32) (a3 : FVec Ideal S20000x3 .f32)

/-- The reference's boxes in the order it returns them. -/
abbrev sortedBox : FVec Ideal S1000x6 .f32 := rSortedBox (rBox (rDist a1 (top a0 a2)) (rPoint a3 (top a0 a2))) (order a0 a2)

theorem dist_at (i : Fin 1000) (d : Fin 6) : (rDist a1 (top a0 a2) (ix2 i d) : EReal) = a1 (ix2 (pick a0 a2 (cand i)) d) :=
  rDist_at _ i _ (top_at a0 a2 i) a1 d
theorem point_at (i : Fin 1000) (d : Fin 3) : (rPoint a3 (top a0 a2) (ix2 i d) : EReal) = a3 (ix2 (pick a0 a2 (cand i)) d) :=
  rPoint_at _ i _ (top_at a0 a2 i) a3 d

theorem rBox_at (dist : FVec Ideal S1000x6 .f32) (p : FVec Ideal S1000x3 .f32) (i : Fin 1000) (d : Fin 6) : (rBox dist p (ix2 i d) : EReal)
    = if h : d.val < 3 then p (ix2 i ⟨d.val, h⟩) - Ideal.exp (dist (ix2 i d)) else p (ix2 i ⟨d.val - 3, by have := d.isLt; omega⟩) + Ideal.exp (dist (ix2 i d)) := by
  fin_cases d <;> pointwise [rBox, rCol, rP, rE]

theorem sortedBox_lo (i : Fin 1000) (d : Fin 3) : (sortedBox a0 a1 a2 a3 (ix2 i ⟨d.val, by have := d.isLt; omega⟩) : EReal) = lo a0 a1 a2 a3 (cand i) d := by
  have hd := d.isLt
  refine (rSortedBox_at a0 a2 _ i _).trans ((rBox_at _ _ i _).trans ?_)
  rw [dif_pos (show d.val < 3 from hd), dist_at, point_at]
  rfl
theorem sortedBox_hi (i : Fin 1000) (d : Fin 3) : (sortedBox a0 a1 a2 a3 (ix2 i ⟨3 + d.val, by have := d.isLt; omega⟩) : EReal) = hi a0 a1 a2 a3 (cand i) d := by
  have hd := d.isLt
  refine (rSortedBox_at a0 a2 _ i _).trans ((rBox_at _ _ i _).trans ?_)
  rw [dif_neg (show ¬ 3 + d.val < 3 by omega), dist_at, point_at]
  have e : (⟨3 + d.val - 3, by omega⟩ : Fin 3) = d := Fin.ext (by show 3 + d.val - 3 = d.val; omega)
  exact congrArg (fun f : Fin 3 => (a3 (ix2 (pick a0 a2 (cand i)) f) + Ideal.exp (a1 (ix2 (pick a0 a2 (cand i)) ⟨3 + d.val, by omega⟩)) : EReal)) e
theorem sortedBox_at (i : Fin 1000) (d : Fin 6) : (sortedBox a0 a1 a2 a3 (ix2 i d) : EReal)
    = if h : d.val < 3 then lo a0 a1 a2 a3 (cand i) ⟨d.val, h⟩ else hi a0 a1 a2 a3 (cand i) ⟨d.val - 3, by have := d.isLt; omega⟩ := by
  have hd := d.isLt
  by_cases h : d.val < 3
  · rw [dif_pos h]
    exact sortedBox_lo a0 a1 a2 a3 i ⟨d.val, h⟩
  · rw [dif_neg h, ← sortedBox_hi a0 a1 a2 a3 i ⟨d.val - 3, by omega⟩]
    exact congrArg (fun e : Fin 6 => (sortedBox a0 a1 a2 a3 (ix2 i e) : EReal)) (Fin.ext (by show d.val = 3 + (d.val - 3); omega))

abbrev zero32 : FVec Ideal S_ .f32 := constant S_ .f32 0x00000000#32

theorem cutOverlap_at (x : FVec Ideal S1000x6 .f32) (i j : Fin 1000) (d : Fin 3) :
    (rCut3 zero32 (rOverlap x) (ix3 i j d) : EReal)
      = max 0 (min (x (ix2 i ⟨3 + d.val, by have := d.isLt; omega⟩)) (x (ix2 j ⟨3 + d.val, by have := d.isLt; omega⟩))
        - max (x (ix2 i ⟨d.val, by have := d.isLt; omega⟩)) (x (ix2 j ⟨d.val, by have := d.isLt; omega⟩))) := by
  pointwise [rCut3, rOverlap]
  exact congrArg (fun z : EReal => max z _) Ideal.ofBits_zero_f32
theorem rMeet_at (v : FVec Ideal S1000x1000x3 .f32) (i j : Fin 1000) :
    (rMeet v (ix2 i j) : EReal) = v (ix3 i j 0) * v (ix3 i j 1) * v (ix3 i j 2) := by
  pointwise [rMeet]
theorem cutSides_at (x : FVec Ideal S1000x6 .f32) (i : Fin 1000) (d : Fin 3) :
    (rCut2 zero32 (rSides x) (ix2 i d) : EReal)
      = max 0 (x (ix2 i ⟨3 + d.val, by have := d.isLt; omega⟩) - x (ix2 i ⟨d.val, by have := d.isLt; omega⟩)) := by
  pointwise [rCut2, rSides]
  exact congrArg (fun z : EReal => max z _) Ideal.ofBits_zero_f32
theorem rVol_at (v : FVec Ideal S1000x3 .f32) (i : Fin 1000) : (rVol v (ix1 i) : EReal) = v (ix2 i 0) * v (ix2 i 1) * v (ix2 i 2) := by
  pointwise [rVol, rP]
theorem rRatio_at (m : FVec Ideal S1000x1000 .f32) (v : FVec Ideal S1000 .f32) (i j : Fin 1000) : (rRatio m v (ix2 i j) : EReal)
    = Ideal.div (m (ix2 i j)) (max (v (ix1 i) + v (ix1 j) - m (ix2 i j)) (Ideal.ofBits .f32 0x358637BD#32)) := by
  pointwise [rRatio]

/-- The reference's ratios. -/
abbrev ratios : FVec Ideal S1000x1000 .f32 :=
  rRatio (rMeet (rCut3 zero32 (rOverlap (sortedBox a0 a1 a2 a3)))) (rVol (rCut2 zero32 (rSides (sortedBox a0 a1 a2 a3))))

theorem cut_side (i j : Fin 1000) (d : Fin 3) : (rCut3 zero32 (rOverlap (sortedBox a0 a1 a2 a3)) (ix3 i j d) : EReal) = side a0 a1 a2 a3 (cand i) (cand j) d := by
  rw [cutOverlap_at, sortedBox_lo, sortedBox_lo, sortedBox_hi, sortedBox_hi]
  rfl
theorem ratios_at (i j : Fin 1000) : (ratios a0 a1 a2 a3 (ix2 i j) : EReal) = ratio a0 a1 a2 a3 (cand i) (cand j) := by
  have hm : (rMeet (rCut3 zero32 (rOverlap (sortedBox a0 a1 a2 a3))) (ix2 i j) : EReal) = meet a0 a1 a2 a3 (cand i) (cand j) := by
    rw [rMeet_at, cut_side, cut_side, cut_side]
    rfl
  have hv : ∀ i : Fin 1000, (rVol (rCut2 zero32 (rSides (sortedBox a0 a1 a2 a3))) (ix1 i) : EReal) = vol a0 a1 a2 a3 (cand i) := fun i => by
    rw [rVol_at, cutSides_at, cutSides_at, cutSides_at, sortedBox_lo, sortedBox_lo, sortedBox_lo, sortedBox_hi, sortedBox_hi, sortedBox_hi]
    rfl
  refine (rRatio_at _ _ i j).trans ?_
  rw [hm, hv, hv]
  rfl

end Cert.Proof

end
-- ==== Proof.RefLoop.lean ====
/- The reference's loop over the candidates: what it has kept after each trip. -/
module

public import proofs.«01_k».proof.Proof.RefRatio
public import Idealize.ShloMosaic.Lib.DynamicIndex

@[expose] public section

set_option maxRecDepth 16384

noncomputable section

namespace Cert.Proof

open Idealize.ShloMosaic Idealize.ShloMosaic.TcCoe Cert.ReferenceIdeal Cert.ReferenceIdeal.Gen Cert.ReferenceIdeal.Value
open Idealize.ShloMosaic.StableHlo

section
variable {F : FTy → Type} [FloatOps F] [∀ e, Nonempty (Elt F e)]

/-- A counter with a negative one counted from the end. -/
def rAt (w : IVec S_ 32) : IVec S_ 32 := select (cmpi .slt w (constantI S_ 32 0#32)) (addi w (constantI S_ 32 1000#32)) w
/-- The counter's row of the ratios, and its entry of the kept flags. -/
def rRow (r : FVec F S1000x1000 .f32) (w : IVec S_ 32) : FVec F S1000 .f32 :=
  shapeCast S1000 (Host.dynamicSlice S1x1000 r
    (fun k => (((![rAt w, rAt (constantI S_ 32 0#32)] : Fin 2 → IVec S_ 32)) k (Shape.Idx.first h_S_)).toInt) sliceFits_S1000x1000_S1x1000) shapeCasts_S1x1000_S1000
def rFlag (k : IVec S1000 1) (w : IVec S_ 32) : IVec S_ 1 :=
  shapeCast S_ (Host.dynamicSlice S1 k (fun a => (((![rAt w] : Fin 1 → IVec S_ 32)) a (Shape.Idx.first h_S_)).toInt) sliceFits_S1000_S1) shapeCasts_S1_S_
/-- One trip's kept flags. -/
def rStep (r : FVec F S1000x1000 .f32) (io : IVec S1000 32) (w : IVec S_ 32) (k : IVec S1000 1) : IVec S1000 1 :=
  andi k (noti (andi (andi (cmpf .ogt (rRow r w) (broadcastInDim S1000 ![] bcast_S_S1000 (constant S_ .f32 0x3F000000#32)))
    (cmpi .sgt io (broadcastInDim S1000 ![] bcast_S_S1000 w))) (broadcastInDim S1000 ![] bcast_S_S1000 (rFlag k w))))

theorem step_eq (V : Valuation τ sig (Elt F)) : step_main_v119_4 V
    = rStep (V (Proc.devRef .tc main_v119_0)) (V (Proc.devRef .tc main_v119_1)) (V (Proc.devRef .tc main_v119_3)) (V (Proc.devRef .tc main_v119_4)) := rfl
end

theorem rAt_word (w : IVec S_ 32) (k : ℕ) (hk : k < 1000) (hw : ∀ x, w x = BitVec.ofNat 32 k) (x : S_.Idx) : rAt w x = BitVec.ofNat 32 k := by
  unfold rAt
  show Scalar.select (IntOp.cmpi .slt (w x) 0#32) _ (w x) = _
  rw [hw, slt_zero k (by omega)]
  rfl
theorem rRow_at (r : FVec Ideal S1000x1000 .f32) (w : IVec S_ 32) (k : Fin 1000) (hw : ∀ x, w x = BitVec.ofNat 32 k.val) (j : Fin 1000) :
    (rRow r w (ix1 j) : EReal) = r (ix2 k j) := by
  have hk := k.isLt
  have hs : S1000x1000.Slices (![k.val, 0] : Fin 2 → ℕ) S1x1000 := ⟨rfl, fun a => by
    fin_cases a
    · show k.val + 1 ≤ 1000; omega
    · show 0 + 1000 ≤ 1000; omega⟩
  unfold rRow
  rw [Host.dynamicSlice_eq_extractStridedSlice S1x1000 r _ ![k.val, 0] _ hs (fun a => by
    fin_cases a
    · show (rAt w _).toInt = (k.val : ℤ)
      rw [rAt_word w k.val hk hw, toInt_small _ (by omega)]
    · show (rAt (constantI S_ 32 0#32) (Shape.Idx.first h_S_)).toInt = 0
      rw [rAt_word (constantI S_ 32 0#32) 0 (by omega) (fun _ => rfl) (Shape.Idx.first h_S_)]; rfl)]
  pointwise
theorem rFlag_at (f : IVec S1000 1) (w : IVec S_ 32) (k : Fin 1000) (hw : ∀ x, w x = BitVec.ofNat 32 k.val) (x : S_.Idx) :
    rFlag f w x = f (ix1 k) := by
  have hk := k.isLt
  have hs : S1000.Slices (![k.val] : Fin 1 → ℕ) S1 := ⟨rfl, fun a => by
    fin_cases a
    show k.val + 1 ≤ 1000; omega⟩
  unfold rFlag
  rw [Host.dynamicSlice_eq_extractStridedSlice S1 f _ ![k.val] _ hs (fun a => by
    fin_cases a
    show (rAt w _).toInt = (k.val : ℤ)
    rw [rAt_word w k.val hk hw, toInt_small _ (by omega)])]
  obtain rfl : x = ix0 := funext fun a => a.elim0
  pointwise

theorem sgt_word (j k : ℕ) (hj : j < 2147483648) (hk : k < 2147483648) :
    IntOp.cmpi CmpIPredicate.sgt (BitVec.ofNat 32 j) (BitVec.ofNat 32 k) = BitVec.ofBool (decide (k < j)) := by
  unfold IntOp.cmpi
  congr 1
  show BitVec.slt _ _ = _
  rw [BitVec.slt_eq_decide, toInt_small _ hj, toInt_small _ hk]
  simp

theorem rStep_at (r : FVec Ideal S1000x1000 .f32) (w : IVec S_ 32) (f : IVec S1000 1) (b : Fin 1000 → Bool)
    (hf : ∀ j, f (ix1 j) = BitVec.ofBool (b j)) (k : Fin 1000) (hw : ∀ x, w x = BitVec.ofNat 32 k.val) (j : Fin 1000) :
    rStep r (iotaInDim S1000 32 0) w f (ix1 j)
      = BitVec.ofBool (b j && !(decide (Ideal.ofBits .f32 0x3F000000#32 < (r (ix2 k j) : EReal)) && decide (k.val < j.val) && b k)) := by
  have hk := k.isLt
  have hj := j.isLt
  have e1 : cmpf (F := Ideal) .ogt (rRow r w) (broadcastInDim S1000 ![] bcast_S_S1000 (constant S_ .f32 0x3F000000#32)) (ix1 j)
      = BitVec.ofBool (decide (Ideal.ofBits .f32 0x3F000000#32 < (r (ix2 k j) : EReal))) := by
    rw [← rRow_at r w k hw j]
    rfl
  have e2 : cmpi .sgt (iotaInDim S1000 32 0) (broadcastInDim S1000 ![] bcast_S_S1000 w) (ix1 j) = BitVec.ofBool (decide (k.val < j.val)) := by
    refine Eq.trans ?_ (sgt_word j.val k.val (by omega) (by omega))
    exact congrArg (IntOp.cmpi CmpIPredicate.sgt _) (hw _)
  have e3 : broadcastInDim S1000 ![] bcast_S_S1000 (rFlag f w) (ix1 j) = BitVec.ofBool (b k) :=
    (rFlag_at f w k hw _).trans (hf k)
  unfold rStep
  show IntOp.andi (f (ix1 j)) (~~~ (IntOp.andi (IntOp.andi (cmpf (F := Ideal) .ogt _ _ (ix1 j)) (cmpi .sgt _ _ (ix1 j))) (broadcastInDim S1000 ![] bcast_S_S1000 (rFlag f w) (ix1 j)))) = _
  rw [e1, e2, e3, hf]
  generalize decide (Ideal.ofBits .f32 0x3F000000#32 < (r (ix2 k j) : EReal)) = p
  generalize decide (k.val < j.val) = q
  generalize b j = s
  generalize b k = t
  cases p <;> cases q <;> cases s <;> cases t <;> rfl

section
variable (a0 : FVec Ideal S20000x1 .f32) (a1 : FVec Ideal S20000x6 .f32) (a2 : FVec Ideal S20000x18 .f32) (a3 : FVec Ideal S20000x3 .f32)

/-- The carried buffers after `k` trips. -/
structure Carried (k : ℕ) (V : Valuation τ sig (Elt Ideal)) : Prop where
  ratios : V (Proc.devRef .tc main_v119_0) = ratios a0 a1 a2 a3
  iota : V (Proc.devRef .tc main_v119_1) = iotaInDim S1000 32 0
  count : V (Proc.devRef .tc main_v119_3) = fun _ => BitVec.ofNat 32 k
  keep : ∀ j : Fin 1000, (V (Proc.devRef .tc main_v119_4) : IVec S1000 1) (ix1 j) = BitVec.ofBool (kept a0 a1 a2 a3 k (cand j))

theorem carried_step (k : ℕ) (hk : k < 1000) (V : Valuation τ sig (Elt Ideal)) (h : Carried a0 a1 a2 a3 k V) : Carried a0 a1 a2 a3 (k + 1) (STEP V) := by
  refine ⟨(STEP_main_v119_0 V).trans h.ratios, (STEP_main_v119_1 V).trans h.iota, ?_, fun j => ?_⟩
  · rw [STEP_main_v119_3]
    unfold step_main_v119_3
    rw [h.count]
    funext x
    show BitVec.ofNat 32 k + 1#32 = BitVec.ofNat 32 (k + 1)
    rw [BitVec.ofNat_add]
  · rw [STEP_main_v119_4, step_eq, h.ratios, h.iota]
    have hc : cand ⟨k, hk⟩ = ⟨k, by omega⟩ := rfl
    refine (rStep_at _ _ _ (fun j => kept a0 a1 a2 a3 k (cand j)) h.keep ⟨k, hk⟩ (fun x => congrFun h.count x) j).trans ?_
    refine congrArg BitVec.ofBool ?_
    rw [ratios_at]
    unfold kept
    rw [dif_pos (show k < 1024 by omega)]
    cases k <;> rfl

theorem carried_iterate (V : Valuation τ sig (Elt Ideal)) (h : Carried a0 a1 a2 a3 0 V) : ∀ k, k ≤ 1000 → Carried a0 a1 a2 a3 k (STEP^[k] V)
  | 0, _ => h
  | k + 1, hk => by
    rw [Function.iterate_succ_apply']
    exact carried_step a0 a1 a2 a3 k (by omega) _ (carried_iterate V h k (by omega))
end

end Cert.Proof

end
-- ==== Proof.RefOut.lean ====
/- What the reference's result arrays hold at the end. -/
module

public import proofs.«01_k».proof.Proof.RefLoop

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Value
open Idealize.ShloMosaic.StableHlo

section
variable {F : FTy → Type} [FloatOps F] [∀ e, Nonempty (Elt F e)]
variable (V : Valuation τ sig (Elt F))

/-! ## The contents after each stretch -/

abbrev s0 : Valuation τ sig (Elt F) := after hostOps0 V
abbrev s1 : Valuation τ sig (Elt F) := after hostOps0_1 (s0 V)
abbrev s2 : Valuation τ sig (Elt F) := after hostOps0_2 (s1 V)
abbrev s3 : Valuation τ sig (Elt F) := after hostOps0_3 (s2 V)
abbrev s4 : Valuation τ sig (Elt F) := after hostOps0_4 (s3 V)
abbrev s5 : Valuation τ sig (Elt F) := after hostOps0_5 (s4 V)
abbrev s6 : Valuation τ sig (Elt F) := after hostOps0_6 (s5 V)
abbrev s7 : Valuation τ sig (Elt F) := after hostOps0_7 (s6 V)
abbrev s8 : Valuation τ sig (Elt F) := after hostOps0_8 (s7 V)
abbrev s9 : Valuation τ sig (Elt F) := after hostOps0_9 (s8 V)
abbrev s10 : Valuation τ sig (Elt F) := after hostOps0_10 (s9 V)
abbrev s11 : Valuation τ sig (Elt F) := after hostOps0_11 (s10 V)
abbrev s12 : Valuation τ sig (Elt F) := after hostOps0_12 (s11 V)

variable (b : Ref sig .tc)
theorem keep0 (h : b ∉ hostOps0_W) : after hostOps0 V (Proc.devRef .tc b) = V (Proc.devRef .tc b) := after_of_writes_sub _ V hostOps0_writes h
theorem keep1 (h : b ∉ hostOps0_1_W) : after hostOps0_1 V (Proc.devRef .tc b) = V (Proc.devRef .tc b) := after_of_writes_sub _ V hostOps0_1_writes h
theorem keep2 (h : b ∉ hostOps0_2_W) : after hostOps0_2 V (Proc.devRef .tc b) = V (Proc.devRef .tc b) := after_of_writes_sub _ V hostOps0_2_writes h
theorem keep3 (h : b ∉ hostOps0_3_W) : after hostOps0_3 V (Proc.devRef .tc b) = V (Proc.devRef .tc b) := after_of_writes_sub _ V hostOps0_3_writes h
theorem keep4 (h : b ∉ hostOps0_4_W) : after hostOps0_4 V (Proc.devRef .tc b) = V (Proc.devRef .tc b) := after_of_writes_sub _ V hostOps0_4_writes h
theorem keep5 (h : b ∉ hostOps0_5_W) : after hostOps0_5 V (Proc.devRef .tc b) = V (Proc.devRef .tc b) := after_of_writes_sub _ V hostOps0_5_writes h
theorem keep6 (h : b ∉ hostOps0_6_W) : after hostOps0_6 V (Proc.devRef .tc b) = V (Proc.devRef .tc b) := after_of_writes_sub _ V hostOps0_6_writes h
theorem keep7 (h : b ∉ hostOps0_7_W) : after hostOps0_7 V (Proc.devRef .tc b) = V (Proc.devRef .tc b) := after_of_writes_sub _ V hostOps0_7_writes h
theorem keep8 (h : b ∉ hostOps0_8_W) : after hostOps0_8 V (Proc.devRef .tc b) = V (Proc.devRef .tc b) := after_of_writes_sub _ V hostOps0_8_writes h
theorem keep9 (h : b ∉ hostOps0_9_W) : after hostOps0_9 V (Proc.devRef .tc b) = V (Proc.devRef .tc b) := after_of_writes_sub _ V hostOps0_9_writes h
theorem keep10 (h : b ∉ hostOps0_10_W) : after hostOps0_10 V (Proc.devRef .tc b) = V (Proc.devRef .tc b) := after_of_writes_sub _ V hostOps0_10_writes h
theorem keep11 (h : b ∉ hostOps0_11_W) : after hostOps0_11 V (Proc.devRef .tc b) = V (Proc.devRef .tc b) := after_of_writes_sub _ V hostOps0_11_writes h
theorem keep12 (h : b ∉ hostOps0_12_W) : after hostOps0_12 V (Proc.devRef .tc b) = V (Proc.devRef .tc b) := after_of_writes_sub _ V hostOps0_12_writes h
theorem keep13 (h : b ∉ hostOps0_13_W) : after hostOps0_13 V (Proc.devRef .tc b) = V (Proc.devRef .tc b) := after_of_writes_sub _ V hostOps0_13_writes h
theorem keep14 (h : b ∉ hostOps0_14_W) : after hostOps0_14 V (Proc.devRef .tc b) = V (Proc.devRef .tc b) := after_of_writes_sub _ V hostOps0_14_writes h

/-- A buffer the loop does not write goes through it. -/
theorem loop_keep (m : (ℓ : Loc nD τ sig) → Buf (Elt F) ℓ) (c : Dev nD) (h : b ∉ while0Ops0_W) (h' : b ∉ condOps_W) (k : ℕ) :
    after condOps (atK m k c) (Proc.devRef .tc b) = s12 (launchContents m c) (Proc.devRef .tc b) := by
  rw [after_of_writes_sub condOps _ condOps_writes h']
  induction k with
  | zero => rfl
  | succ k ih =>
    rw [show atK m (k + 1) c = after while0Ops0 (after condOps (atK m k c)) from rfl, after_of_writes_sub while0Ops0 _ while0Ops0_writes h,
      after_of_writes_sub condOps _ condOps_writes h', ih]
end

section
variable (V : Valuation τ sig (Elt Ideal))

/-- The arguments in the launch contents. -/
abbrev v0 : FVec Ideal S20000x1 .f32 := V (Proc.devRef .tc main_arg0)
abbrev v1 : FVec Ideal S20000x6 .f32 := V (Proc.devRef .tc main_arg1)
abbrev v2 : FVec Ideal S20000x18 .f32 := V (Proc.devRef .tc main_arg2)
abbrev v3 : FVec Ideal S20000x3 .f32 := V (Proc.devRef .tc main_arg3)

theorem s3_dist : s3 V (Proc.devRef .tc main_v15) = rDist (v1 V) (top (v0 V) (v2 V)) := by
  rw [s3, keep3 _ main_v15 (by decide), s2, keep2 _ main_v15 (by decide), s1, h1_dist, s0, keep0 _ main_arg1 (by decide), h0_top]
theorem s3_rows : s3 V (Proc.devRef .tc main_v16) = rows (v0 V) (v2 V) := by
  rw [s3, keep3 _ main_v16 (by decide), s2, h2_rows, s1, keep1 _ main_v13 (by decide), keep1 _ main_indices (by decide), s0, h0_score, h0_top]
theorem s3_point : s3 V (Proc.devRef .tc main_v17) = rPoint (v3 V) (top (v0 V) (v2 V)) := by
  rw [s3, h3_point, s2, keep2 _ main_arg3 (by decide), s1, keep1 _ main_arg3 (by decide), s0, keep0 _ main_arg3 (by decide),
    keep2 _ main_indices (by decide), keep1 _ main_indices (by decide), h0_top]
theorem s7_order : s7 V (Proc.devRef .tc main_v59) = order (v0 V) (v2 V) := by
  rw [s7, s6, h7_order, s5, keep5 _ main_v56 (by decide), s4, h4_best, s3_rows]
theorem s7_box : s7 V (Proc.devRef .tc main_v55) = rBox (rDist (v1 V) (top (v0 V) (v2 V))) (rPoint (v3 V) (top (v0 V) (v2 V))) := by
  rw [s7, keep7 _ main_v55 (by decide), s6, keep6 _ main_v55 (by decide), s5, keep5 _ main_v55 (by decide), s4, h4_box, s3_dist, s3_point]
theorem s7_best : s7 V (Proc.devRef .tc main_v56) = rTopScore (rows (v0 V) (v2 V)) := by
  rw [s7, keep7 _ main_v56 (by decide), s6, keep6 _ main_v56 (by decide), s5, keep5 _ main_v56 (by decide), s4, h4_best, s3_rows]
theorem s8_box : s8 V (Proc.devRef .tc main_v66) = sortedBox (v0 V) (v1 V) (v2 V) (v3 V) := by
  rw [s8, h8_box, s7_box, s7_order]
theorem s12_box : s12 V (Proc.devRef .tc main_v66) = sortedBox (v0 V) (v1 V) (v2 V) (v3 V) := by
  rw [s12, keep12 _ main_v66 (by decide), s11, keep11 _ main_v66 (by decide), s10, keep10 _ main_v66 (by decide), s9, keep9 _ main_v66 (by decide), s8_box]
theorem s12_score : s12 V (Proc.devRef .tc main_v73) = rSortedScore (rTopScore (rows (v0 V) (v2 V))) (order (v0 V) (v2 V)) := by
  rw [s12, keep12 _ main_v73 (by decide), s11, keep11 _ main_v73 (by decide), s10, keep10 _ main_v73 (by decide), s9, keep9 _ main_v73 (by decide), s8, h8_score, s7_best, s7_order]
theorem s12_order : s12 V (Proc.devRef .tc main_v59) = order (v0 V) (v2 V) := by
  rw [s12, keep12 _ main_v59 (by decide), s11, keep11 _ main_v59 (by decide), s10, keep10 _ main_v59 (by decide), s9, keep9 _ main_v59 (by decide), s8, keep8 _ main_v59 (by decide), s7_order]
theorem s12_label : s12 V (Proc.devRef .tc main_v57) = rLabel (rows (v0 V) (v2 V)) := by
  rw [s12, keep12 _ main_v57 (by decide), s11, keep11 _ main_v57 (by decide), s10, keep10 _ main_v57 (by decide), s9, keep9 _ main_v57 (by decide), s8, keep8 _ main_v57 (by decide),
    s7, keep7 _ main_v57 (by decide), s6, keep6 _ main_v57 (by decide), s5, h5_label, s4, keep4 _ main_v16 (by decide), s3_rows]
theorem s12_ratios : s12 V (Proc.devRef .tc main_v119_0) = ratios (v0 V) (v1 V) (v2 V) (v3 V) := by
  rw [s12, h12_ratio, s11, keep11 _ main_v95 (by decide), h11_cut, s10, h10_meet, h10_zero, h10_sides, s9, h9_cut, keep9 _ main_v66 (by decide),
    s8, h8_zero, h8_overlap, h8_box, s7_box, s7_order]
theorem carried_start : Carried (v0 V) (v1 V) (v2 V) (v3 V) 0 (s12 V) :=
  ⟨s12_ratios V, h12_iota _, h12_index _, fun j => congrFun (h12_keep (s11 V)) (ix1 j)⟩
end

section
variable (m : (ℓ : Loc nD τ sig) → Buf (Elt Ideal) ℓ) (c : Dev nD)

abbrev a0 : FVec Ideal S20000x1 .f32 := m ((c.tc : Thread nD τ).loc main_arg0)
abbrev a1 : FVec Ideal S20000x6 .f32 := m ((c.tc : Thread nD τ).loc main_arg1)
abbrev a2 : FVec Ideal S20000x18 .f32 := m ((c.tc : Thread nD τ).loc main_arg2)
abbrev a3 : FVec Ideal S20000x3 .f32 := m ((c.tc : Thread nD τ).loc main_arg3)

/-- The kept flags when the loop ends. -/
theorem end_keep (j : Fin 1000) : (after condOps (atK m 1000 c) (Proc.devRef .tc main_v119_4) : IVec S1000 1) (ix1 j)
    = BitVec.ofBool (kept (a0 m c) (a1 m c) (a2 m c) (a3 m c) 1000 (cand j)) := by
  rw [after_of_writes_sub condOps _ condOps_writes (r := main_v119_4) (by decide), atK_agree m c 1000 main_v119_4 (by decide)]
  exact (carried_iterate _ _ _ _ _ (carried_start (launchContents m c)) 1000 le_rfl).keep j

theorem final_eq (b : Ref sig .tc) : refFinal m c (Proc.devRef .tc b) = after hostOps0_14 (after hostOps0_13 (after condOps (atK m 1000 c))) (Proc.devRef .tc b) := rfl

theorem final_boxes : refFinal m c (Proc.devRef .tc main_v66) = resBoxes (F := Ideal) (a0 m c) (a1 m c) (a2 m c) (a3 m c) := by
  rw [final_eq, keep14 _ main_v66 (by decide), keep13 _ main_v66 (by decide), loop_keep main_v66 m c (by decide) (by decide), s12_box]
  funext x
  obtain ⟨i, d, rfl⟩ : ∃ (i : Fin 1000) (d : Fin 6), x = ix2 i d := ⟨x 0, x 1, by funext a; fin_cases a <;> rfl⟩
  exact (sortedBox_at _ _ _ _ i d).trans (resBoxes_at _ _ _ _ i d).symm

/-- A score times its flag, at one place. -/
theorem keptScore_at (x : FVec Ideal S1000 .f32) (k : IVec S1000 1) (i : Fin 1000) (b : Bool) (h : k (ix1 i) = BitVec.ofBool b) :
    (rKeptScore x k (ix1 i) : EReal) = x (ix1 i) * if b then 1 else 0 := by
  have hu : (((BitVec.ofBool b).toNat : ℝ) : EReal) = if b then 1 else 0 := by
    cases b <;> simp
  exact congrArg (fun y : EReal => x (ix1 i) * y) ((congrArg (fun w : BitVec 1 => ((w.toNat : ℝ) : EReal)) h).trans hu)

theorem final_scores : refFinal m c (Proc.devRef .tc main_v121) = resScores (F := Ideal) (a0 m c) (a1 m c) (a2 m c) (a3 m c) := by
  rw [final_eq, keep14 _ main_v121 (by decide), h13_score, loop_keep main_v73 m c (by decide) (by decide), s12_score]
  funext x
  obtain ⟨i, rfl⟩ : ∃ i : Fin 1000, x = ix1 i := ⟨x 0, by funext a; obtain rfl : a = 0 := Subsingleton.elim _ _; rfl⟩
  refine Eq.trans ?_ (resScores_at _ _ _ _ i).symm
  refine (keptScore_at _ _ i _ (end_keep m c i)).trans ?_
  rw [rSortedScore_at, topScore_at]

theorem final_labels : refFinal m c (Proc.devRef .tc main_v122) = resLabels (F := Ideal) (a0 m c) (a1 m c) (a2 m c) (a3 m c) := by
  rw [final_eq, h14_label, keep13 _ main_v57 (by decide), keep13 _ main_v59 (by decide), loop_keep main_v57 m c (by decide) (by decide),
    loop_keep main_v59 m c (by decide) (by decide), s12_label, s12_order]
  funext x
  obtain ⟨i, rfl⟩ : ∃ i : Fin 1000, x = ix1 i := ⟨x 0, by funext a; obtain rfl : a = 0 := Subsingleton.elim _ _; rfl⟩
  exact (label_at _ _ i).trans (resLabels_at _ _ _ _ i).symm

end

end Cert.Proof

end
-- ==== Proof.lean ====
/-
The proof of `Cert.Claim`.
-/
module

public import proofs.«01_k».proof.Defs
public import proofs.«01_k».proof.Proof.KernelFrame
public import proofs.«01_k».proof.Proof.Keep
public import proofs.«01_k».proof.Proof.RefOut

@[expose] public section

noncomputable section

namespace Cert.Proof

open Idealize.ShloMosaic Idealize.ShloMosaic.TcCoe Idealize.SL.Sem

/-- A function of the four arguments, read at a device's memory. -/
abbrev at_args {β : Type} (f : FVec Ideal Cert.KernelIdeal.S20000x1 .f32 → FVec Ideal Cert.KernelIdeal.S20000x6 .f32 → FVec Ideal Cert.KernelIdeal.S20000x18 .f32 → FVec Ideal Cert.KernelIdeal.S20000x3 .f32 → β)
    (m : (ℓ : Loc Cert.KernelIdeal.nD Cert.KernelIdeal.τ Cert.KernelIdeal.sig) → Buf (Elt Ideal) ℓ) (c : Dev Cert.KernelIdeal.nD) : β :=
  f (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))

/-- The kernel and the reference return equal arrays. -/
theorem algebraic : @Cert.algebraic_KernelIdeal_ReferenceIdeal Cert.KernelIdeal.Gen.facts Cert.ReferenceIdeal.Gen.facts := by
  intro m g m' g' _ hargs
  refine ⟨fun c => at_args resBoxes m c, fun c => at_args resScores m c, fun c => at_args resLabels m c, ?_, ?_⟩
  · refine (θ_run _ _ _).mono (fun r h c => ?_) (run_all m g)
    have hb := fun (b : Ref Cert.KernelIdeal.sig .tc) hb => h.1 c (Proc.devRef .tc b) (mem_uc b hb)
    exact ⟨(hb _ (by decide)).trans (W5_boxes m g c), (hb _ (by decide)).trans (W5_scores m g c), (hb _ (by decide)).trans (W5_labels m g c),
      (hb _ (by decide)).trans (W5_args m g c _ (by decide)), (hb _ (by decide)).trans (W5_args m g c _ (by decide)),
      (hb _ (by decide)).trans (W5_args m g c _ (by decide)), (hb _ (by decide)).trans (W5_args m g c _ (by decide))⟩
  · refine (θ_run _ _ _).mono (fun r h c => ?_) (ref_run m' g')
    have he {β : Type} (f : FVec Ideal Cert.KernelIdeal.S20000x1 .f32 → FVec Ideal Cert.KernelIdeal.S20000x6 .f32 → FVec Ideal Cert.KernelIdeal.S20000x18 .f32 → FVec Ideal Cert.KernelIdeal.S20000x3 .f32 → β) :
        f (a0 m' c) (a1 m' c) (a2 m' c) (a3 m' c) = at_args f m c := by
      obtain ⟨h0, h1, h2, h3⟩ := hargs c
      exact congr (congr (congr (congrArg f h0) h1) h2) h3
    exact ⟨((h c _ rfl).trans (final_boxes m' c)).trans (he resBoxes), ((h c _ rfl).trans (final_scores m' c)).trans (he resScores), ((h c _ rfl).trans (final_labels m' c)).trans (he resLabels),
      (h c _ rfl).trans (refFinal_keep m' c _ (by decide +kernel)), (h c _ rfl).trans (refFinal_keep m' c _ (by decide +kernel)),
      (h c _ rfl).trans (refFinal_keep m' c _ (by decide +kernel)), (h c _ rfl).trans (refFinal_keep m' c _ (by decide +kernel))⟩

theorem claim : Cert.Claim := ⟨Cert.Kernel.Gen.facts, Cert.KernelIdeal.Gen.facts, Cert.ReferenceIdeal.Gen.facts,
  fun m g _ => kernel_frame m g, fun m g _ => frame m g, fun m g _ => ref_frame m g, trivial, algebraic⟩

end Cert.Proof

end
